-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x32 : Shape := ⟨2, ![1024, 32]⟩
abbrev S1024 : Shape := ⟨1, ![1024]⟩
abbrev S100000x32 : Shape := ⟨2, ![100000, 32]⟩
abbrev S100000 : Shape := ⟨1, ![100000]⟩
abbrev S_ : Shape := ⟨0, ![]⟩

class Facts : Prop where
  bcast_S_S1024x32 : S_.BroadcastsInDim S1024x32 (![] : Fin 0 → Fin S1024x32.rank)
  bcast_S_S100000x32 : S_.BroadcastsInDim S100000x32 (![] : Fin 0 → Fin S100000x32.rank)
  bcast_S_S100000 : S_.BroadcastsInDim S100000 (![] : Fin 0 → Fin S100000.rank)

variable [Facts]

def fn {F : FTy → Type} [FloatOps F] (main_arg0 : FVec F S1024x32 .f32) (main_arg1 : IVec S1024 32) (main_arg2 : FVec F S100000x32 .f32) (main_arg3 : FVec F S100000 .f32) : IVec S1024x32 1 × IVec S100000x32 1 × IVec S100000 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_v3 : FVec F S100000x32 .f32 := Host.absf main_arg2
  let main_cst_0 : FVec F S_ .f32 := constant S_ .f32 0x7F800000#32
  let main_v4 : FVec F S100000x32 .f32 := broadcastInDim S100000x32 ![] bcast_S_S100000x32 main_cst_0
  let main_v5 : IVec S100000x32 1 := cmpf .olt main_v3 main_v4
  let main_v6 : FVec F S100000 .f32 := Host.absf main_arg3
  let main_cst_1 : FVec F S_ .f32 := constant S_ .f32 0x7F800000#32
  let main_v7 : FVec F S100000 .f32 := broadcastInDim S100000 ![] bcast_S_S100000 main_cst_1
  let main_v8 : IVec S100000 1 := cmpf .olt main_v6 main_v7
  (main_v2, main_v5, main_v8)
-- ==== Kernel.lean ====
abbrev S1024x32 : Shape := ⟨2, ![1024, 32]⟩
abbrev S1024 : Shape := ⟨1, ![1024]⟩
abbrev S100000x32 : Shape := ⟨2, ![100000, 32]⟩
abbrev S100000 : Shape := ⟨1, ![100000]⟩
abbrev S_ : Shape := ⟨0, ![]⟩
abbrev S1024x1 : Shape := ⟨2, ![1024, 1]⟩
abbrev S1024x33 : Shape := ⟨2, ![1024, 33]⟩
abbrev S32x100000 : Shape := ⟨2, ![32, 100000]⟩
abbrev S32x102400 : Shape := ⟨2, ![32, 102400]⟩
abbrev S102400 : Shape := ⟨1, ![102400]⟩
abbrev S1x102400 : Shape := ⟨2, ![1, 102400]⟩
abbrev S33x102400 : Shape := ⟨2, ![33, 102400]⟩
abbrev S33x4096 : Shape := ⟨2, ![33, 4096]⟩
abbrev S1024x4096 : Shape := ⟨2, ![1024, 4096]⟩
abbrev S1024x100000 : Shape := ⟨2, ![1024, 100000]⟩
abbrev S2x1024x4096 : Shape := ⟨3, ![2, 1024, 4096]⟩
abbrev S2x8 : Shape := ⟨2, ![2, 8]⟩
abbrev S1x1 : Shape := ⟨2, ![1, 1]⟩
abbrev S128x4096 : Shape := ⟨2, ![128, 4096]⟩
abbrev S1x128x4096 : Shape := ⟨3, ![1, 128, 4096]⟩
abbrev S1x1024x4096 : Shape := ⟨3, ![1, 1024, 4096]⟩
abbrev S128x1664 : Shape := ⟨2, ![128, 1664]⟩
abbrev S1x128x1664 : Shape := ⟨3, ![1, 128, 1664]⟩
abbrev S32x32 : Shape := ⟨2, ![32, 32]⟩
abbrev S32 : Shape := ⟨1, ![32]⟩
abbrev S1x32 : Shape := ⟨2, ![1, 32]⟩

abbrev nBuf : Space → Nat
  | .hbm => 56
  | .vmem => 11
  | .smem => 0
  | _ => 0

abbrev bufTy : (tb : Table) → Fin (tcTables nBuf tb) → BufTy
  | .hbm, ⟨0, _⟩ => ⟨S1024x32, .f32⟩
  | .hbm, ⟨1, _⟩ => ⟨S1024, .i32⟩
  | .hbm, ⟨2, _⟩ => ⟨S100000x32, .f32⟩
  | .hbm, ⟨3, _⟩ => ⟨S100000, .f32⟩
  | .hbm, ⟨4, _⟩ => ⟨S_, .f32⟩
  | .hbm, ⟨5, _⟩ => ⟨S1024x1, .f32⟩
  | .hbm, ⟨6, _⟩ => ⟨S1024x33, .f32⟩
  | .hbm, ⟨7, _⟩ => ⟨S32x100000, .f32⟩
  | .hbm, ⟨8, _⟩ => ⟨S_, .i32⟩
  | .hbm, ⟨9, _⟩ => ⟨S_, .f32⟩
  | .hbm, ⟨10, _⟩ => ⟨S32x102400, .f32⟩
  | .hbm, ⟨11, _⟩ => ⟨S_, .f32⟩
  | .hbm, ⟨12, _⟩ => ⟨S_, .f32⟩
  | .hbm, ⟨13, _⟩ => ⟨S102400, .f32⟩
  | .hbm, ⟨14, _⟩ => ⟨S1x102400, .f32⟩
  | .hbm, ⟨15, _⟩ => ⟨S33x102400, .f32⟩
  | .hbm, ⟨16, _⟩ => ⟨S100000x32, .f32⟩
  | .hbm, ⟨17, _⟩ => ⟨S_, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1024x32, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S1024x1, .f32⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S1024x100000, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S32x32, .f32⟩
  | .hbm, ⟨42, _⟩ => ⟨S32x32, .f32⟩
  | .hbm, ⟨43, _⟩ => ⟨S1024x32, .f32⟩
  | .hbm, ⟨44, _⟩ => ⟨S32, .f32⟩
  | .hbm, ⟨45, _⟩ => ⟨S1x32, .f32⟩
  | .hbm, ⟨46, _⟩ => ⟨S1024x32, .f32⟩
  | .hbm, ⟨47, _⟩ => ⟨S1024x32, .f32⟩
  | .hbm, ⟨48, _⟩ => ⟨S1024x32, .f32⟩
  | .hbm, ⟨49, _⟩ => ⟨S1024x32, .f32⟩
  | .hbm, ⟨50, _⟩ => ⟨S1024x32, .f32⟩
  | .hbm, ⟨51, _⟩ => ⟨S1024x32, .f32⟩
  | .hbm, ⟨52, _⟩ => ⟨S1024x32, .f32⟩
  | .hbm, ⟨53, _⟩ => ⟨S_, .i32⟩
  | .hbm, ⟨54, _⟩ => ⟨S_, .i32⟩
  | .hbm, ⟨55, _⟩ => ⟨S1024x100000, .f32⟩
  | .local _ .vmem, ⟨0, _⟩ => ⟨S1024x33, .f32⟩
  | .local _ .vmem, ⟨1, _⟩ => ⟨S33x4096, .f32⟩
  | .local _ .vmem, ⟨2, _⟩ => ⟨S33x4096, .f32⟩
  | .local _ .vmem, ⟨3, _⟩ => ⟨S1024x1, .f32⟩
  | .local _ .vmem, ⟨4, _⟩ => ⟨S1024x1, .f32⟩
  | .local _ .vmem, ⟨5, _⟩ => ⟨S1024x33, .f32⟩
  | .local _ .vmem, ⟨6, _⟩ => ⟨S33x4096, .f32⟩
  | .local _ .vmem, ⟨7, _⟩ => ⟨S33x4096, .f32⟩
  | .local _ .vmem, ⟨8, _⟩ => ⟨S1024x1, .f32⟩
  | .local _ .vmem, ⟨9, _⟩ => ⟨S1024x1, .f32⟩
  | .local _ .vmem, ⟨10, _⟩ => ⟨S2x1024x4096, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_cst_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_c_8 : Ref sig .tc := ⟨.hbm, 54, rfl⟩
abbrev main_v38 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_6 : BitVec 32 := 0#32
  let v14 : BitVec 1 := Scalar.cmpi .ne v13 c0_i32_6
  v14

def k0_cond2 (i : grid0.Coords) : BitVec 1 :=
  let arg0 : BitVec 32 := BitVec.ofNat 32 (i 0).val
  let c0_i32_7 : BitVec 32 := 0#32
  let v15 : BitVec 1 := Scalar.cmpi .sgt arg0 c0_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x33 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S33x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def k1_cond1 (i : grid1.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k1_off1 (i : grid1.Coords) : Fin 2 → Nat :=
  let arg0 : BitVec 32 := BitVec.ofNat 32 (i 0).val
  let c2_i32 : BitVec 32 := 2#32
  let v0 : BitVec 32 := Scalar.remsi arg0 c2_i32
  let c0_i32_14 : BitVec 32 := 0#32
  ![v0.toNat, 0]
def k1_off2 (i : grid1.Coords) : Fin 2 → Nat :=
  let c0_i32_15 : BitVec 32 := 0#32
  let arg0 : BitVec 32 := BitVec.ofNat 32 (i 0).val
  let c2_i32_13 : BitVec 32 := 2#32
  let v28 : BitVec 32 := Scalar.subi arg0 c2_i32_13
  let c4096_i32 : BitVec 32 := 4096#32
  let v29 : BitVec 32 := Scalar.muli v28 c4096_i32
  ![0, v29.toNat]
def k1_off3 (i : grid1.Coords) : Fin 3 → Nat :=
  let arg0 : BitVec 32 := BitVec.ofNat 32 (i 0).val
  let c2_i32 : BitVec 32 := 2#32
  let v0 : BitVec 32 := Scalar.remsi arg0 c2_i32
  let c0_i32_16 : BitVec 32 := 0#32
  let c0_i32_17 : BitVec 32 := 0#32
  ![v0.toNat, 0, 0]
def k1_off4 (i : grid1.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k1_off5 (i : grid1.Coords) : Fin 2 → Nat :=
  let c128_i32 : BitVec 32 := 128#32
  let arg0 : BitVec 32 := BitVec.ofNat 32 (i 0).val
  let c2_i32_13 : BitVec 32 := 2#32
  let v28 : BitVec 32 := Scalar.subi arg0 c2_i32_13
  let c4096_i32_18 : BitVec 32 := 4096#32
  let v35 : BitVec 32 := Scalar.muli v28 c4096_i32_18
  ![128, v35.toNat]
def k1_off6 (i : grid1.Coords) : Fin 3 → Nat :=
  let arg0 : BitVec 32 := BitVec.ofNat 32 (i 0).val
  let c2_i32 : BitVec 32 := 2#32
  let v0 : BitVec 32 := Scalar.remsi arg0 c2_i32
  let c128_i32_19 : BitVec 32 := 128#32
  let c0_i32_20 : BitVec 32 := 0#32
  ![v0.toNat, 128, 0]
def k1_off7 (i : grid1.Coords) : Fin 2 → Nat :=
  let arg0 : BitVec 32 := BitVec.ofNat 32 (i 0).val
  let c2_i32 : BitVec 32 := 2#32
  let v0 : BitVec 32 := Scalar.remsi arg0 c2_i32
  let c2_i32_22 : BitVec 32 := 2#32
  ![v0.toNat, 2]
def k1_off8 (i : grid1.Coords) : Fin 2 → Nat :=
  let c256_i32 : BitVec 32 := 256#32
  let arg0 : BitVec 32 := BitVec.ofNat 32 (i 0).val
  let c2_i32_13 : BitVec 32 := 2#32
  let v28 : BitVec 32 := Scalar.subi arg0 c2_i32_13
  let c4096_i32_21 : BitVec 32 := 4096#32
  let v41 : BitVec 32 := Scalar.muli v28 c4096_i32_21
  ![256, v41.toNat]
def k1_off9 (i : grid1.Coords) : Fin 3 → Nat :=
  let arg0 : BitVec 32 := BitVec.ofNat 32 (i 0).val
  let c2_i32 : BitVec 32 := 2#32
  let v0 : BitVec 32 := Scalar.remsi arg0 c2_i32
  let c256_i32_23 : BitVec 32 := 256#32
  let c0_i32_24 : BitVec 32 := 0#32
  ![v0.toNat, 256, 0]
def k1_off10 (i : grid1.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k1_off11 (i : grid1.Coords) : Fin 2 → Nat :=
  let c384_i32 : BitVec 32 := 384#32
  let arg0 : BitVec 32 := BitVec.ofNat 32 (i 0).val
  let c2_i32_13 : BitVec 32 := 2#32
  let v28 : BitVec 32 := Scalar.subi arg0 c2_i32_13
  let c4096_i32_25 : BitVec 32 := 4096#32
  let v47 : BitVec 32 := Scalar.muli v28 c4096_i32_25
  ![384, v47.toNat]
def k1_off12 (i : grid1.Coords) : Fin 3 → Nat :=
  let arg0 : BitVec 32 := BitVec.ofNat 32 (i 0).val
  let c2_i32 : BitVec 32 := 2#32
  let v0 : BitVec 32 := Scalar.remsi arg0 c2_i32
  let c384_i32_26 : BitVec 32 := 384#32
  let c0_i32_27 : BitVec 32 := 0#32
  ![v0.toNat, 384, 0]
def k1_off13 (i : grid1.Coords) : Fin 2 → Nat :=
  let arg0 : BitVec 32 := BitVec.ofNat 32 (i 0).val
  let c2_i32 : BitVec 32 := 2#32
  let v0 : BitVec 32 := Scalar.remsi arg0 c2_i32
  let c4_i32 : BitVec 32 := 4#32
  ![v0.toNat, 4]
def k1_off14 (i : grid1.Coords) : Fin 2 → Nat :=
  let c512_i32 : BitVec 32 := 512#32
  let arg0 : BitVec 32 := BitVec.ofNat 32 (i 0).val
  let c2_i32_13 : BitVec 32 := 2#32
  let v28 : BitVec 32 := Scalar.subi arg0 c2_i32_13
  let c4096_i32_28 : BitVec 32 := 4096#32
  let v53 : BitVec 32 := Scalar.muli v28 c4096_i32_28
  ![512, v53.toNat]
def k1_off15 (i : grid1.Coords) : Fin 3 → Nat :=
  let arg0 : BitVec 32 := BitVec.ofNat 32 (i 0).val
  let c2_i32 : BitVec 32 := 2#32
  let v0 : BitVec 32 := Scalar.remsi arg0 c2_i32
  let c512_i32_29 : BitVec 32 := 512#32
  let c0_i32_30 : BitVec 32 := 0#32
  ![v0.toNat, 512, 0]
def k1_off16 (i : grid1.Coords) : Fin 2 → Nat :=
  let arg0 : BitVec 32 := BitVec.ofNat 32 (i 0).val
  let c2_i32 : BitVec 32 := 2#32
  let v0 : BitVec 32 := Scalar.remsi arg0 c2_i32
  let c5_i32 : BitVec 32 := 5#32
  ![v0.toNat, 5]
def k1_off17 (i : grid1.Coords) : Fin 2 → Nat :=
  let c640_i32 : BitVec 32 := 640#32
  let arg0 : BitVec 32 := BitVec.ofNat 32 (i 0).val
  let c2_i32_13 : BitVec 32 := 2#32
  let v28 : BitVec 32 := Scalar.subi arg0 c2_i32_13
  let c4096_i32_31 : BitVec 32 := 4096#32
  let v59 : BitVec 32 := Scalar.muli v28 c4096_i32_31
  ![640, v59.toNat]
def k1_off18 (i : grid1.Coords) : Fin 3 → Nat :=
  let arg0 : BitVec 32 := BitVec.ofNat 32 (i 0).val
  let c2_i32 : BitVec 32 := 2#32
  let v0 : BitVec 32 := Scalar.remsi arg0 c2_i32
  let c640_i32_32 : BitVec 32 := 640#32
  let c0_i32_33 : BitVec 32 := 0#32
  ![v0.toNat, 640, 0]
def k1_off19 (i : grid1.Coords) : Fin 2 → Nat :=
  let arg0 : BitVec 32 := BitVec.ofNat 32 (i 0).val
  let c2_i32 : BitVec 32 := 2#32
  let v0 : BitVec 32 := Scalar.remsi arg0 c2_i32
  let c6_i32 : BitVec 32 := 6#32
  ![v0.toNat, 6]
def k1_off20 (i : grid1.Coords) : Fin 2 → Nat :=
  let c768_i32 : BitVec 32 := 768#32
  let arg0 : BitVec 32 := BitVec.ofNat 32 (i 0).val
  let c2_i32_13 : BitVec 32 := 2#32
  let v28 : BitVec 32 := Scalar.subi arg0 c2_i32_13
  let c4096_i32_34 : BitVec 32 := 4096#32
  let v65 : BitVec 32 := Scalar.muli v28 c4096_i32_34
  ![768, v65.toNat]
def k1_off21 (i : grid1.Coords) : Fin 3 → Nat :=
  let arg0 : BitVec 32 := BitVec.ofNat 32 (i 0).val
  let c2_i32 : BitVec 32 := 2#32
  let v0 : BitVec 32 := Scalar.remsi arg0 c2_i32
  let c768_i32_35 : BitVec 32 := 768#32
  let c0_i32_36 : BitVec 32 := 0#32
  ![v0.toNat, 768, 0]
def k1_off22 (i : grid1.Coords) : Fin 2 → Nat :=
  let arg0 : BitVec 32 := BitVec.ofNat 32 (i 0).val
  let c2_i32 : BitVec 32 := 2#32
  let v0 : BitVec 32 := Scalar.remsi arg0 c2_i32
  let c7_i32 : BitVec 32 := 7#32
  ![v0.toNat, 7]
def k1_off23 (i : grid1.Coords) : Fin 2 → Nat :=
  let c896_i32 : BitVec 32 := 896#32
  let arg0 : BitVec 32 := BitVec.ofNat 32 (i 0).val
  let c2_i32_13 : BitVec 32 := 2#32
  let v28 : BitVec 32 := Scalar.subi arg0 c2_i32_13
  let c4096_i32_37 : BitVec 32 := 4096#32
  let v71 : BitVec 32 := Scalar.muli v28 c4096_i32_37
  ![896, v71.toNat]
def k1_off24 (i : grid1.Coords) : Fin 3 → Nat :=
  let arg0 : BitVec 32 := BitVec.ofNat 32 (i 0).val
  let c2_i32 : BitVec 32 := 2#32
  let v0 : BitVec 32 := Scalar.remsi arg0 c2_i32
  let c896_i32_38 : BitVec 32 := 896#32
  let c0_i32_39 : BitVec 32 := 0#32
  ![v0.toNat, 896, 0]
def k1_off25 (i : grid1.Coords) : Fin 3 → Nat :=
  let arg0 : BitVec 32 := BitVec.ofNat 32 (i 0).val
  let c2_i32 : BitVec 32 := 2#32
  let v0 : BitVec 32 := Scalar.remsi arg0 c2_i32
  let v18 : Index := Scalar.indexCast v0
  let c0_8 : Index := 0#32
  let c0_9 : Index := 0#32
  ![v18.toNat, 0, 0]
def k1_cond2 (i : grid1.Coords) : BitVec 1 :=
  let arg0 : BitVec 32 := BitVec.ofNat 32 (i 0).val
  let c24_i32 : BitVec 32 := 24#32
  let v22 : BitVec 1 := Scalar.cmpi .slt arg0 c24_i32
  let v23 : BitVec 32 := Scalar.extui v22
  let c0_i32_10 : BitVec 32 := 0#32
  let v24 : BitVec 1 := Scalar.cmpi .ne v23 c0_i32_10
  v24

def k1_off26 (i : grid1.Coords) : Fin 2 → Nat :=
  let arg0 : BitVec 32 := BitVec.ofNat 32 (i 0).val
  let c2_i32 : BitVec 32 := 2#32
  let v0 : BitVec 32 := Scalar.remsi arg0 c2_i32
  let c0_i32_13 : BitVec 32 := 0#32
  ![v0.toNat, 0]
def k1_off27 (i : grid1.Coords) : Fin 2 → Nat :=
  let c0_i32_14 : BitVec 32 := 0#32
  let arg0 : BitVec 32 := BitVec.ofNat 32 (i 0).val
  let c4096_i32 : BitVec 32 := 4096#32
  let v28 : BitVec 32 := Scalar.muli arg0 c4096_i32
  ![0, v28.toNat]
def k1_off28 (i : grid1.Coords) : Fin 3 → Nat :=
  let arg0 : BitVec 32 := BitVec.ofNat 32 (i 0).val
  let c2_i32 : BitVec 32 := 2#32
  let v0 : BitVec 32 := Scalar.remsi arg0 c2_i32
  let c0_i32_15 : BitVec 32 := 0#32
  let c0_i32_16 : BitVec 32 := 0#32
  ![v0.toNat, 0, 0]
def k1_off29 (i : grid1.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k1_off30 (i : grid1.Coords) : Fin 2 → Nat :=
  let c128_i32 : BitVec 32 := 128#32
  let arg0 : BitVec 32 := BitVec.ofNat 32 (i 0).val
  let c4096_i32_17 : BitVec 32 := 4096#32
  let v34 : BitVec 32 := Scalar.muli arg0 c4096_i32_17
  ![128, v34.toNat]
def k1_off31 (i : grid1.Coords) : Fin 3 → Nat :=
  let arg0 : BitVec 32 := BitVec.ofNat 32 (i 0).val
  let c2_i32 : BitVec 32 := 2#32
  let v0 : BitVec 32 := Scalar.remsi arg0 c2_i32
  let c128_i32_18 : BitVec 32 := 128#32
  let c0_i32_19 : BitVec 32 := 0#32
  ![v0.toNat, 128, 0]
def k1_off32 (i : grid1.Coords) : Fin 2 → Nat :=
  let arg0 : BitVec 32 := BitVec.ofNat 32 (i 0).val
  let c2_i32 : BitVec 32 := 2#32
  let v0 : BitVec 32 := Scalar.remsi arg0 c2_i32
  let c2_i32_21 : BitVec 32 := 2#32
  ![v0.toNat, 2]
def k1_off33 (i : grid1.Coords) : Fin 2 → Nat :=
  let c256_i32 : BitVec 32 := 256#32
  let arg0 : BitVec 32 := BitVec.ofNat 32 (i 0).val
  let c4096_i32_20 : BitVec 32 := 4096#32
  let v40 : BitVec 32 := Scalar.muli arg0 c4096_i32_20
  ![256, v40.toNat]
def k1_off34 (i : grid1.Coords) : Fin 3 → Nat :=
  let arg0 : BitVec 32 := BitVec.ofNat 32 (i 0).val
  let c2_i32 : BitVec 32 := 2#32
  let v0 : BitVec 32 := Scalar.remsi arg0 c2_i32
  let c256_i32_22 : BitVec 32 := 256#32
  let c0_i32_23 : BitVec 32 := 0#32
  ![v0.toNat, 256, 0]
def k1_off35 (i : grid1.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k1_off36 (i : grid1.Coords) : Fin 2 → Nat :=
  let c384_i32 : BitVec 32 := 384#32
  let arg0 : BitVec 32 := BitVec.ofNat 32 (i 0).val
  let c4096_i32_24 : BitVec 32 := 4096#32
  let v46 : BitVec 32 := Scalar.muli arg0 c4096_i32_24
  ![384, v46.toNat]
def k1_off37 (i : grid1.Coords) : Fin 3 → Nat :=
  let arg0 : BitVec 32 := BitVec.ofNat 32 (i 0).val
  let c2_i32 : BitVec 32 := 2#32
  let v0 : BitVec 32 := Scalar.remsi arg0 c2_i32
  let c384_i32_25 : BitVec 32 := 384#32
  let c0_i32_26 : BitVec 32 := 0#32
  ![v0.toNat, 384, 0]
def k1_off38 (i : grid1.Coords) : Fin 2 → Nat :=
  let arg0 : BitVec 32 := BitVec.ofNat 32 (i 0).val
  let c2_i32 : BitVec 32 := 2#32
  let v0 : BitVec 32 := Scalar.remsi arg0 c2_i32
  let c4_i32 : BitVec 32 := 4#32
  ![v0.toNat, 4]
def k1_off39 (i : grid1.Coords) : Fin 2 → Nat :=
  let c512_i32 : BitVec 32 := 512#32
  let arg0 : BitVec 32 := BitVec.ofNat 32 (i 0).val
  let c4096_i32_27 : BitVec 32 := 4096#32
  let v52 : BitVec 32 := Scalar.muli arg0 c4096_i32_27
  ![512, v52.toNat]
def k1_off40 (i : grid1.Coords) : Fin 3 → Nat :=
  let arg0 : BitVec 32 := BitVec.ofNat 32 (i 0).val
  let c2_i32 : BitVec 32 := 2#32
  let v0 : BitVec 32 := Scalar.remsi arg0 c2_i32
  let c512_i32_28 : BitVec 32 := 512#32
  let c0_i32_29 : BitVec 32 := 0#32
  ![v0.toNat, 512, 0]
def k1_off41 (i : grid1.Coords) : Fin 2 → Nat :=
  let arg0 : BitVec 32 := BitVec.ofNat 32 (i 0).val
  let c2_i32 : BitVec 32 := 2#32
  let v0 : BitVec 32 := Scalar.remsi arg0 c2_i32
  let c5_i32 : BitVec 32 := 5#32
  ![v0.toNat, 5]
def k1_off42 (i : grid1.Coords) : Fin 2 → Nat :=
  let c640_i32 : BitVec 32 := 640#32
  let arg0 : BitVec 32 := BitVec.ofNat 32 (i 0).val
  let c4096_i32_30 : BitVec 32 := 4096#32
  let v58 : BitVec 32 := Scalar.muli arg0 c4096_i32_30
  ![640, v58.toNat]
def k1_off43 (i : grid1.Coords) : Fin 3 → Nat :=
  let arg0 : BitVec 32 := BitVec.ofNat 32 (i 0).val
  let c2_i32 : BitVec 32 := 2#32
  let v0 : BitVec 32 := Scalar.remsi arg0 c2_i32
  let c640_i32_31 : BitVec 32 := 640#32
  let c0_i32_32 : BitVec 32 := 0#32
  ![v0.toNat, 640, 0]
def k1_off44 (i : grid1.Coords) : Fin 2 → Nat :=
  let arg0 : BitVec 32 := BitVec.ofNat 32 (i 0).val
  let c2_i32 : BitVec 32 := 2#32
  let v0 : BitVec 32 := Scalar.remsi arg0 c2_i32
  let c6_i32 : BitVec 32 := 6#32
  ![v0.toNat, 6]
def k1_off45 (i : grid1.Coords) : Fin 2 → Nat :=
  let c768_i32 : BitVec 32 := 768#32
  let arg0 : BitVec 32 := BitVec.ofNat 32 (i 0).val
  let c4096_i32_33 : BitVec 32 := 4096#32
  let v64 : BitVec 32 := Scalar.muli arg0 c4096_i32_33
  ![768, v64.toNat]
def k1_off46 (i : grid1.Coords) : Fin 3 → Nat :=
  let arg0 : BitVec 32 := BitVec.ofNat 32 (i 0).val
  let c2_i32 : BitVec 32 := 2#32
  let v0 : BitVec 32 := Scalar.remsi arg0 c2_i32
  let c768_i32_34 : BitVec 32 := 768#32
  let c0_i32_35 : BitVec 32 := 0#32
  ![v0.toNat, 768, 0]
def k1_off47 (i : grid1.Coords) : Fin 2 → Nat :=
  let arg0 : BitVec 32 := BitVec.ofNat 32 (i 0).val
  let c2_i32 : BitVec 32 := 2#32
  let v0 : BitVec 32 := Scalar.remsi arg0 c2_i32
  let c7_i32 : BitVec 32 := 7#32
  ![v0.toNat, 7]
def k1_off48 (i : grid1.Coords) : Fin 2 → Nat :=
  let c896_i32 : BitVec 32 := 896#32
  let arg0 : BitVec 32 := BitVec.ofNat 32 (i 0).val
  let c4096_i32_36 : BitVec 32 := 4096#32
  let v70 : BitVec 32 := Scalar.muli arg0 c4096_i32_36
  ![896, v70.toNat]
def k1_off49 (i : grid1.Coords) : Fin 3 → Nat :=
  let arg0 : BitVec 32 := BitVec.ofNat 32 (i 0).val
  let c2_i32 : BitVec 32 := 2#32
  let v0 : BitVec 32 := Scalar.remsi arg0 c2_i32
  let c896_i32_37 : BitVec 32 := 896#32
  let c0_i32_38 : BitVec 32 := 0#32
  ![v0.toNat, 896, 0]
def k1_cond3 (i : grid1.Coords) : BitVec 1 :=
  let arg0 : BitVec 32 := BitVec.ofNat 32 (i 0).val
  let c24_i32_11 : BitVec 32 := 24#32
  let v25 : BitVec 1 := Scalar.cmpi .eq arg0 c24_i32_11
  let v26 : BitVec 32 := Scalar.extui v25
  let c0_i32_12 : BitVec 32 := 0#32
  let v27 : BitVec 1 := Scalar.cmpi .ne v26 c0_i32_12
  v27

def k1_off50 (i : grid1.Coords) : Fin 2 → Nat :=
  let arg0 : BitVec 32 := BitVec.ofNat 32 (i 0).val
  let c2_i32 : BitVec 32 := 2#32
  let v0 : BitVec 32 := Scalar.remsi arg0 c2_i32
  let c0_i32_13 : BitVec 32 := 0#32
  ![v0.toNat, 0]
def k1_off51 (i : grid1.Coords) : Fin 2 → Nat :=
  let c0_i32_14 : BitVec 32 := 0#32
  let arg0 : BitVec 32 := BitVec.ofNat 32 (i 0).val
  let c4096_i32 : BitVec 32 := 4096#32
  let v28 : BitVec 32 := Scalar.muli arg0 c4096_i32
  ![0, v28.toNat]
def k1_off52 (i : grid1.Coords) : Fin 3 → Nat :=
  let arg0 : BitVec 32 := BitVec.ofNat 32 (i 0).val
  let c2_i32 : BitVec 32 := 2#32
  let v0 : BitVec 32 := Scalar.remsi arg0 c2_i32
  let c0_i32_15 : BitVec 32 := 0#32
  let c0_i32_16 : BitVec 32 := 0#32
  ![v0.toNat, 0, 0]
def k1_off53 (i : grid1.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k1_off54 (i : grid1.Coords) : Fin 2 → Nat :=
  let c128_i32 : BitVec 32 := 128#32
  let arg0 : BitVec 32 := BitVec.ofNat 32 (i 0).val
  let c4096_i32_17 : BitVec 32 := 4096#32
  let v34 : BitVec 32 := Scalar.muli arg0 c4096_i32_17
  ![128, v34.toNat]
def k1_off55 (i : grid1.Coords) : Fin 3 → Nat :=
  let arg0 : BitVec 32 := BitVec.ofNat 32 (i 0).val
  let c2_i32 : BitVec 32 := 2#32
  let v0 : BitVec 32 := Scalar.remsi arg0 c2_i32
  let c128_i32_18 : BitVec 32 := 128#32
  let c0_i32_19 : BitVec 32 := 0#32
  ![v0.toNat, 128, 0]
def k1_off56 (i : grid1.Coords) : Fin 2 → Nat :=
  let arg0 : BitVec 32 := BitVec.ofNat 32 (i 0).val
  let c2_i32 : BitVec 32 := 2#32
  let v0 : BitVec 32 := Scalar.remsi arg0 c2_i32
  let c2_i32_21 : BitVec 32 := 2#32
  ![v0.toNat, 2]
def k1_off57 (i : grid1.Coords) : Fin 2 → Nat :=
  let c256_i32 : BitVec 32 := 256#32
  let arg0 : BitVec 32 := BitVec.ofNat 32 (i 0).val
  let c4096_i32_20 : BitVec 32 := 4096#32
  let v40 : BitVec 32 := Scalar.muli arg0 c4096_i32_20
  ![256, v40.toNat]
def k1_off58 (i : grid1.Coords) : Fin 3 → Nat :=
  let arg0 : BitVec 32 := BitVec.ofNat 32 (i 0).val
  let c2_i32 : BitVec 32 := 2#32
  let v0 : BitVec 32 := Scalar.remsi arg0 c2_i32
  let c256_i32_22 : BitVec 32 := 256#32
  let c0_i32_23 : BitVec 32 := 0#32
  ![v0.toNat, 256, 0]
def k1_off59 (i : grid1.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k1_off60 (i : grid1.Coords) : Fin 2 → Nat :=
  let c384_i32 : BitVec 32 := 384#32
  let arg0 : BitVec 32 := BitVec.ofNat 32 (i 0).val
  let c4096_i32_24 : BitVec 32 := 4096#32
  let v46 : BitVec 32 := Scalar.muli arg0 c4096_i32_24
  ![384, v46.toNat]
def k1_off61 (i : grid1.Coords) : Fin 3 → Nat :=
  let arg0 : BitVec 32 := BitVec.ofNat 32 (i 0).val
  let c2_i32 : BitVec 32 := 2#32
  let v0 : BitVec 32 := Scalar.remsi arg0 c2_i32
  let c384_i32_25 : BitVec 32 := 384#32
  let c0_i32_26 : BitVec 32 := 0#32
  ![v0.toNat, 384, 0]
def k1_off62 (i : grid1.Coords) : Fin 2 → Nat :=
  let arg0 : BitVec 32 := BitVec.ofNat 32 (i 0).val
  let c2_i32 : BitVec 32 := 2#32
  let v0 : BitVec 32 := Scalar.remsi arg0 c2_i32
  let c4_i32 : BitVec 32 := 4#32
  ![v0.toNat, 4]
def k1_off63 (i : grid1.Coords) : Fin 2 → Nat :=
  let c512_i32 : BitVec 32 := 512#32
  let arg0 : BitVec 32 := BitVec.ofNat 32 (i 0).val
  let c4096_i32_27 : BitVec 32 := 4096#32
  let v52 : BitVec 32 := Scalar.muli arg0 c4096_i32_27
  ![512, v52.toNat]
def k1_off64 (i : grid1.Coords) : Fin 3 → Nat :=
  let arg0 : BitVec 32 := BitVec.ofNat 32 (i 0).val
  let c2_i32 : BitVec 32 := 2#32
  let v0 : BitVec 32 := Scalar.remsi arg0 c2_i32
  let c512_i32_28 : BitVec 32 := 512#32
  let c0_i32_29 : BitVec 32 := 0#32
  ![v0.toNat, 512, 0]
def k1_off65 (i : grid1.Coords) : Fin 2 → Nat :=
  let arg0 : BitVec 32 := BitVec.ofNat 32 (i 0).val
  let c2_i32 : BitVec 32 := 2#32
  let v0 : BitVec 32 := Scalar.remsi arg0 c2_i32
  let c5_i32 : BitVec 32 := 5#32
  ![v0.toNat, 5]
def k1_off66 (i : grid1.Coords) : Fin 2 → Nat :=
  let c640_i32 : BitVec 32 := 640#32
  let arg0 : BitVec 32 := BitVec.ofNat 32 (i 0).val
  let c4096_i32_30 : BitVec 32 := 4096#32
  let v58 : BitVec 32 := Scalar.muli arg0 c4096_i32_30
  ![640, v58.toNat]
def k1_off67 (i : grid1.Coords) : Fin 3 → Nat :=
  let arg0 : BitVec 32 := BitVec.ofNat 32 (i 0).val
  let c2_i32 : BitVec 32 := 2#32
  let v0 : BitVec 32 := Scalar.remsi arg0 c2_i32
  let c640_i32_31 : BitVec 32 := 640#32
  let c0_i32_32 : BitVec 32 := 0#32
  ![v0.toNat, 640, 0]
def k1_off68 (i : grid1.Coords) : Fin 2 → Nat :=
  let arg0 : BitVec 32 := BitVec.ofNat 32 (i 0).val
  let c2_i32 : BitVec 32 := 2#32
  let v0 : BitVec 32 := Scalar.remsi arg0 c2_i32
  let c6_i32 : BitVec 32 := 6#32
  ![v0.toNat, 6]
def k1_off69 (i : grid1.Coords) : Fin 2 → Nat :=
  let c768_i32 : BitVec 32 := 768#32
  let arg0 : BitVec 32 := BitVec.ofNat 32 (i 0).val
  let c4096_i32_33 : BitVec 32 := 4096#32
  let v64 : BitVec 32 := Scalar.muli arg0 c4096_i32_33
  ![768, v64.toNat]
def k1_off70 (i : grid1.Coords) : Fin 3 → Nat :=
  let arg0 : BitVec 32 := BitVec.ofNat 32 (i 0).val
  let c2_i32 : BitVec 32 := 2#32
  let v0 : BitVec 32 := Scalar.remsi arg0 c2_i32
  let c768_i32_34 : BitVec 32 := 768#32
  let c0_i32_35 : BitVec 32 := 0#32
  ![v0.toNat, 768, 0]
def k1_off71 (i : grid1.Coords) : Fin 2 → Nat :=
  let arg0 : BitVec 32 := BitVec.ofNat 32 (i 0).val
  let c2_i32 : BitVec 32 := 2#32
  let v0 : BitVec 32 := Scalar.remsi arg0 c2_i32
  let c7_i32 : BitVec 32 := 7#32
  ![v0.toNat, 7]
def k1_off72 (i : grid1.Coords) : Fin 2 → Nat :=
  let c896_i32 : BitVec 32 := 896#32
  let arg0 : BitVec 32 := BitVec.ofNat 32 (i 0).val
  let c4096_i32_36 : BitVec 32 := 4096#32
  let v70 : BitVec 32 := Scalar.muli arg0 c4096_i32_36
  ![896, v70.toNat]
def k1_off73 (i : grid1.Coords) : Fin 3 → Nat :=
  let arg0 : BitVec 32 := BitVec.ofNat 32 (i 0).val
  let c2_i32 : BitVec 32 := 2#32
  let v0 : BitVec 32 := Scalar.remsi arg0 c2_i32
  let c896_i32_37 : BitVec 32 := 896#32
  let c0_i32_38 : BitVec 32 := 0#32
  ![v0.toNat, 896, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x33 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S33x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S1024x32 : Shape := ⟨2, ![1024, 32]⟩
abbrev S1024 : Shape := ⟨1, ![1024]⟩
abbrev S100000x32 : Shape := ⟨2, ![100000, 32]⟩
abbrev S100000 : Shape := ⟨1, ![100000]⟩
abbrev S32x100000 : Shape := ⟨2, ![32, 100000]⟩
abbrev S1024x100000 : Shape := ⟨2, ![1024, 100000]⟩
abbrev S1x100000 : Shape := ⟨2, ![1, 100000]⟩
abbrev S_ : Shape := ⟨0, ![]⟩
abbrev S1024x1 : Shape := ⟨2, ![1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S1024, .i32⟩
  | .hbm, ⟨2, _⟩ => ⟨S100000x32, .f32⟩
  | .hbm, ⟨3, _⟩ => ⟨S100000, .f32⟩
  | .hbm, ⟨4, _⟩ => ⟨S32x100000, .f32⟩
  | .hbm, ⟨5, _⟩ => ⟨S1024x100000, .f32⟩
  | .hbm, ⟨6, _⟩ => ⟨S1x100000, .f32⟩
  | .hbm, ⟨7, _⟩ => ⟨S1024x100000, .f32⟩
  | .hbm, ⟨8, _⟩ => ⟨S1024x100000, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S1024x100000, .f32⟩
  | .hbm, ⟨16, _⟩ => ⟨S1024x100000, .f32⟩
  | .hbm, ⟨17, _⟩ => ⟨S1024x100000, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S1024x100000, .f32⟩
  | .hbm, ⟨22, _⟩ => ⟨S1024x100000, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.ProbNames.lean ====
/-
  The second region's windows: names for the pieces of memory its copies move, and the region's body written over them.

  At grid step `t` the body (i) for `2 ≤ t` waits for the eight copies step `t - 2` started out of slot `t % 2` of the
  scratch, (ii) stores a block of 4096 columns into that slot, (iii) starts eight copies, 128 rows each, from the slot into
  the block's columns of the result.  The last step copies 1664 columns instead of 4096, and waits for everything.
-/
module

public import proofs.«01_k».proof.Proof.Gen.Kernel.Skeleton
public import proofs.«01_k».proof.Proof.Gen.Kernel.Points
public import Idealize.ShloMosaic.Lib.Ring.WriteBehind
public import Idealize.ShloMosaic.Lib.Tactic

@[expose] public section

set_option maxRecDepth 16384

noncomputable section

namespace Cert.Proof.Kernel

open Cert.Kernel Cert.Kernel.Gen
open Idealize.ShloMosaic Idealize.ShloMosaic.TcCoe
open Idealize.SL Idealize.SL.Sem

variable {F : FTy → Type} [FloatOps F]

/-! ## The windows -/

/-- The result in main memory, the scratch, and the scratch semaphores. -/
abbrev outM : Memref sig .tc .hbm S1024x100000 .f32 := Memref.whole main_v23
/-- The scratch of two slots, whole. -/
abbrev bufM : Memref sig .tc .vmem S2x1024x4096 .f32 := Memref.whole cc1_scratch0

/-- Where copy `k`'s semaphore of slot `g` lies among the sixteen. -/
abbrev cellOff (g : Fin 2) (k : Fin 8) : Fin 2 → ℕ := ![g.val, k.val]
/-- Where slot `g` begins. -/
abbrev slotOff (g : Fin 2) : Fin 3 → ℕ := ![g.val, 0, 0]
/-- Where the 128 rows of copy `k` begin in slot `g`. -/
abbrev tileOff (g : Fin 2) (k : Fin 8) : Fin 3 → ℕ := ![g.val, 128 * k.val, 0]
/-- Where the 128 rows of copy `k` begin in block `b` of the result. -/
abbrev pieceOff (b : ℕ) (k : Fin 8) : Fin 2 → ℕ := ![128 * k.val, 4096 * b]

/-- The semaphore is one of the sixteen. -/
theorem cellOff_inb (g : Fin 2) (k : Fin 8) : ∀ a, cellOff g k a + S1x1.size a ≤ S2x8.size a := by
  have := g.isLt; have := k.isLt; intro a; fin_cases a
  · show g.val + 1 ≤ 2; omega
  · show k.val + 1 ≤ 8; omega
/-- The slot lies in the scratch. -/
theorem slotOff_inb (g : Fin 2) : ∀ a, slotOff g a + S1x1024x4096.size a ≤ S2x1024x4096.size a := by
  have := g.isLt; intro a; fin_cases a
  · show g.val + 1 ≤ 2; omega
  · show 0 + 1024 ≤ 1024; omega
  · show 0 + 4096 ≤ 4096; omega
/-- The rows of a copy, 4096 columns wide, lie in the scratch. -/
theorem tileOff_inb (g : Fin 2) (k : Fin 8) : ∀ a, tileOff g k a + S1x128x4096.size a ≤ S2x1024x4096.size a := by
  have := g.isLt; have := k.isLt; intro a; fin_cases a
  · show g.val + 1 ≤ 2; omega
  · show 128 * k.val + 128 ≤ 1024; omega
  · show 0 + 4096 ≤ 4096; omega
/-- The same of the narrow copies' 1664 columns. -/
theorem ntileOff_inb (g : Fin 2) (k : Fin 8) : ∀ a, tileOff g k a + S1x128x1664.size a ≤ S2x1024x4096.size a := by
  have := g.isLt; have := k.isLt; intro a; fin_cases a
  · show g.val + 1 ≤ 2; omega
  · show 128 * k.val + 128 ≤ 1024; omega
  · show 0 + 1664 ≤ 4096; omega
/-- The rows of a copy into one of the first 24 blocks lie in the result. -/
theorem pieceOff_inb (b : Fin 24) (k : Fin 8) : ∀ a, pieceOff b k a + S128x4096.size a ≤ S1024x100000.size a := by
  have := b.isLt; have := k.isLt; intro a; fin_cases a
  · show 128 * k.val + 128 ≤ 1024; omega
  · show 4096 * b.val + 4096 ≤ 100000; omega
/-- The rows of a narrow copy into the last block lie in the result. -/
theorem npieceOff_inb (k : Fin 8) : ∀ a, pieceOff 24 k a + S128x1664.size a ≤ S1024x100000.size a := by
  have := k.isLt; intro a; fin_cases a
  · show 128 * k.val + 128 ≤ 1024; omega
  · show 4096 * 24 + 1664 ≤ 100000; omega

/-- Copy `k`'s semaphore of slot `g`. -/
abbrev cell (g : Fin 2) (k : Fin 8) : DmaSems sig S_ :=
  (cc1_scratch1.slice (Rect.unit (s := S2x8) (cellOff g k) S1x1.size (cellOff_inb g k))).squeeze S_ squeezes_S1x1_S_
/-- Rows `128 k …` of slot `g`, all its columns. -/
abbrev tile (g : Fin 2) (k : Fin 8) : Memref sig .tc .vmem S128x4096 .f32 :=
  (bufM.slice (Rect.unit (s := S2x1024x4096) (tileOff g k) S1x128x4096.size (tileOff_inb g k)) (fun _ => rfl)).squeeze S128x4096 squeezes_S1x128x4096_S128x4096
/-- Rows `128 k …` and columns `4096 b …` of the result. -/
abbrev piece (b : Fin 24) (k : Fin 8) : Memref sig .tc .hbm S128x4096 .f32 :=
  outM.slice (Rect.unit (s := S1024x100000) (pieceOff b k) S128x4096.size (pieceOff_inb b k)) (fun _ => rfl)
/-- Rows `128 k …` of slot `g`, its first 1664 columns. -/
abbrev ntile (g : Fin 2) (k : Fin 8) : Memref sig .tc .vmem S128x1664 .f32 :=
  (bufM.slice (Rect.unit (s := S2x1024x4096) (tileOff g k) S1x128x1664.size (ntileOff_inb g k)) (fun _ => rfl)).squeeze S128x1664 squeezes_S1x128x1664_S128x1664
/-- Rows `128 k …` of the result's columns 98304 to 99967. -/
abbrev npiece (k : Fin 8) : Memref sig .tc .hbm S128x1664 .f32 :=
  outM.slice (Rect.unit (s := S1024x100000) (pieceOff 24 k) S128x1664.size (npieceOff_inb k)) (fun _ => rfl)

/-! ## The body's steps -/

/-- A program that the second call's body is made of. -/
abbrev P1 (F : FTy → Type) [FloatOps F] := Prog (TpuEff nD τ sig (Elt F) Λ₀ .tc) PUnit

/-- Start, and wait for, copy `k` of block `b` out of slot `g`. -/
abbrev start (g : Fin 2) (b : Fin 24) (k : Fin 8) : P1 F :=
  Prog.lift (.enqueueDma (tile g k) (.here (piece b k)) (.dma (cell g k).sem) ((View.wordExact_bits rfl).reshape _ _) (View.wordExact_bits rfl) ⟨Or.inl rfl, trivial⟩)
/-- Wait for copy `k` of slot `g` into block `b`. -/
abbrev await (g : Fin 2) (b : Fin 24) (k : Fin 8) : P1 F :=
  Prog.lift (.waitDma2 (cell g k).sem (tile g k) (piece b k) ((View.wordExact_bits rfl).reshape _ _) (View.wordExact_bits rfl))
/-- … and the same for the last, narrower block. -/
abbrev nstart (g : Fin 2) (k : Fin 8) : P1 F :=
  Prog.lift (.enqueueDma (ntile g k) (.here (npiece k)) (.dma (cell g k).sem) ((View.wordExact_bits rfl).reshape _ _) (View.wordExact_bits rfl) ⟨Or.inl rfl, trivial⟩)
/-- Wait for narrow copy `k` of slot `g` into the last block. -/
abbrev nawait (g : Fin 2) (k : Fin 8) : P1 F :=
  Prog.lift (.waitDma2 (cell g k).sem (ntile g k) (npiece k) ((View.wordExact_bits rfl).reshape _ _) (View.wordExact_bits rfl))

/-- Eight programs in a row. -/
abbrev each8 (f : Fin 8 → P1 F) (κ : P1 F) : P1 F := do f 0; f 1; f 2; f 3; f 4; f 5; f 6; f 7; κ

/-- The block of step `t`: four loads of the staged blocks, and the store into the slot at offset `o`. -/
abbrev storeBlock (o : Fin 3 → ℕ) (ho : ∀ a, o a + S1x1024x4096.size a ≤ S2x1024x4096.size a) (arg1 : Memref sig .tc .vmem S1024x33 .f32) (arg2 : Memref sig .tc .vmem S33x4096 .f32)
    (arg3 : Memref sig .tc .vmem S1024x1 .f32) (arg4 : Memref sig .tc .vmem S1024x1 .f32) (κ : P1 F) : P1 F := do
  let v4 : Vec F S1024x33 .f32 ← Prog.lift (.load arg1 (Rect.unit (s := S1024x33) ![0, 0] S1024x33.size inb_S1024x33_S1024x33_0_0).toLoadRect (View.loadsAt_vmem h_S1024x33))
  let v6 : Vec F S33x4096 .f32 ← Prog.lift (.load arg2 (Rect.unit (s := S33x4096) ![0, 0] S33x4096.size inb_S33x4096_S33x4096_0_0).toLoadRect (View.loadsAt_vmem h_S33x4096))
  let v9 : Vec F S1024x1 .f32 ← Prog.lift (.load arg3 (Rect.unit (s := S1024x1) ![0, 0] S1024x1.size inb_S1024x1_S1024x1_0_0).toLoadRect (View.loadsAt_vmem h_S1024x1))
  let v14 : Vec F S1024x1 .f32 ← Prog.lift (.load arg4 (Rect.unit (s := S1024x1) ![0, 0] S1024x1.size inb_S1024x1_S1024x1_0_0).toLoadRect (View.loadsAt_vmem h_S1024x1))
  let v19 : Vec F S1x1024x4096 .f32 ← Prog.lift (.load bufM (Rect.unit (s := S2x1024x4096) o S1x1024x4096.size ho).toLoadRect (View.loadsAt_vmem h_S1x1024x4096))
  Prog.lift (.store bufM (Rect.unit (s := S2x1024x4096) o S1x1024x4096.size ho) (k1_pay1 v4 v6 v9 v14) Finset.univ (View.stores_vmem_bits_univ h_S1x1024x4096 rfl) (.inl rfl))
  κ

/-! ## The offsets the body computes, and its conditions, over the grid -/

open Idealize.ShloMosaic.Ring (sl bk)

/-- The steps that wait for the copies of the step before the last one are all but the first two. -/
theorem cond1_iff : ∀ t : Fin grid1.N, k1_cond1 (grid1.coords t) = 1#1 ↔ 2 ≤ t.val := by decide +kernel
/-- The steps that start wide copies are all but the last. -/
theorem cond2_iff : ∀ t : Fin grid1.N, k1_cond2 (grid1.coords t) = 1#1 ↔ t.val < 24 := by decide +kernel
/-- The step that starts narrow copies is the last. -/
theorem cond3_iff : ∀ t : Fin grid1.N, k1_cond3 (grid1.coords t) = 1#1 ↔ t.val = 24 := by decide +kernel

/-- A step stores into its slot, the slots taking turns. -/
theorem store_off : ∀ t : Fin grid1.N, k1_off25 (grid1.coords t) = slotOff (sl 2 t.val) := by decide +kernel

/-- The eight waits' semaphores, pieces and tiles. -/
theorem await_cells : ∀ t : Fin grid1.N, let i := grid1.coords t
    k1_off1 i = cellOff (sl 2 t.val) 0 ∧ k1_off4 i = cellOff (sl 2 t.val) 1 ∧ k1_off7 i = cellOff (sl 2 t.val) 2
    ∧ k1_off10 i = cellOff (sl 2 t.val) 3 ∧ k1_off13 i = cellOff (sl 2 t.val) 4 ∧ k1_off16 i = cellOff (sl 2 t.val) 5
    ∧ k1_off19 i = cellOff (sl 2 t.val) 6 ∧ k1_off22 i = cellOff (sl 2 t.val) 7 := by decide +kernel
/-- The waits are for the block of two steps ago. -/
theorem await_pieces : ∀ t : Fin grid1.N, 2 ≤ t.val → let i := grid1.coords t
    k1_off2 i = pieceOff (bk 24 (t.val - 2)) 0 ∧ k1_off5 i = pieceOff (bk 24 (t.val - 2)) 1 ∧ k1_off8 i = pieceOff (bk 24 (t.val - 2)) 2
    ∧ k1_off11 i = pieceOff (bk 24 (t.val - 2)) 3 ∧ k1_off14 i = pieceOff (bk 24 (t.val - 2)) 4 ∧ k1_off17 i = pieceOff (bk 24 (t.val - 2)) 5
    ∧ k1_off20 i = pieceOff (bk 24 (t.val - 2)) 6 ∧ k1_off23 i = pieceOff (bk 24 (t.val - 2)) 7 := by decide +kernel
/-- The waits are for the step's own slot. -/
theorem await_tiles : ∀ t : Fin grid1.N, let i := grid1.coords t
    k1_off3 i = tileOff (sl 2 t.val) 0 ∧ k1_off6 i = tileOff (sl 2 t.val) 1 ∧ k1_off9 i = tileOff (sl 2 t.val) 2
    ∧ k1_off12 i = tileOff (sl 2 t.val) 3 ∧ k1_off15 i = tileOff (sl 2 t.val) 4 ∧ k1_off18 i = tileOff (sl 2 t.val) 5
    ∧ k1_off21 i = tileOff (sl 2 t.val) 6 ∧ k1_off24 i = tileOff (sl 2 t.val) 7 := by decide +kernel
/-- The eight starts'. -/
theorem start_cells : ∀ t : Fin grid1.N, let i := grid1.coords t
    k1_off26 i = cellOff (sl 2 t.val) 0 ∧ k1_off29 i = cellOff (sl 2 t.val) 1 ∧ k1_off32 i = cellOff (sl 2 t.val) 2
    ∧ k1_off35 i = cellOff (sl 2 t.val) 3 ∧ k1_off38 i = cellOff (sl 2 t.val) 4 ∧ k1_off41 i = cellOff (sl 2 t.val) 5
    ∧ k1_off44 i = cellOff (sl 2 t.val) 6 ∧ k1_off47 i = cellOff (sl 2 t.val) 7 := by decide +kernel
/-- The starts send to the step's block. -/
theorem start_pieces : ∀ t : Fin grid1.N, t.val < 24 → let i := grid1.coords t
    k1_off27 i = pieceOff (bk 24 t.val) 0 ∧ k1_off30 i = pieceOff (bk 24 t.val) 1 ∧ k1_off33 i = pieceOff (bk 24 t.val) 2
    ∧ k1_off36 i = pieceOff (bk 24 t.val) 3 ∧ k1_off39 i = pieceOff (bk 24 t.val) 4 ∧ k1_off42 i = pieceOff (bk 24 t.val) 5
    ∧ k1_off45 i = pieceOff (bk 24 t.val) 6 ∧ k1_off48 i = pieceOff (bk 24 t.val) 7 := by decide +kernel
/-- The starts send from the step's slot. -/
theorem start_tiles : ∀ t : Fin grid1.N, let i := grid1.coords t
    k1_off28 i = tileOff (sl 2 t.val) 0 ∧ k1_off31 i = tileOff (sl 2 t.val) 1 ∧ k1_off34 i = tileOff (sl 2 t.val) 2
    ∧ k1_off37 i = tileOff (sl 2 t.val) 3 ∧ k1_off40 i = tileOff (sl 2 t.val) 4 ∧ k1_off43 i = tileOff (sl 2 t.val) 5
    ∧ k1_off46 i = tileOff (sl 2 t.val) 6 ∧ k1_off49 i = tileOff (sl 2 t.val) 7 := by decide +kernel
/-- The last step's eight narrow starts'. -/
theorem nstart_offs : ∀ t : Fin grid1.N, t.val = 24 → let i := grid1.coords t
    (k1_off50 i = cellOff 0 0 ∧ k1_off53 i = cellOff 0 1 ∧ k1_off56 i = cellOff 0 2 ∧ k1_off59 i = cellOff 0 3
      ∧ k1_off62 i = cellOff 0 4 ∧ k1_off65 i = cellOff 0 5 ∧ k1_off68 i = cellOff 0 6 ∧ k1_off71 i = cellOff 0 7)
    ∧ (k1_off51 i = pieceOff 24 0 ∧ k1_off54 i = pieceOff 24 1 ∧ k1_off57 i = pieceOff 24 2 ∧ k1_off60 i = pieceOff 24 3
      ∧ k1_off63 i = pieceOff 24 4 ∧ k1_off66 i = pieceOff 24 5 ∧ k1_off69 i = pieceOff 24 6 ∧ k1_off72 i = pieceOff 24 7)
    ∧ (k1_off52 i = tileOff 0 0 ∧ k1_off55 i = tileOff 0 1 ∧ k1_off58 i = tileOff 0 2 ∧ k1_off61 i = tileOff 0 3
      ∧ k1_off64 i = tileOff 0 4 ∧ k1_off67 i = tileOff 0 5 ∧ k1_off70 i = tileOff 0 6 ∧ k1_off73 i = tileOff 0 7) := by decide +kernel

/-! ## The body over the names -/

/-- A semaphore at an offset equal to a named one is the named semaphore. -/
theorem cell_of {o : Fin 2 → ℕ} {g : Fin 2} {k : Fin 8} (e : o = cellOff g k) (h : ∀ a, o a + S1x1.size a ≤ S2x8.size a) :
    (cc1_scratch1.slice (Rect.unit (s := S2x8) o S1x1.size h)).squeeze S_ squeezes_S1x1_S_ = cell g k := by subst e; rfl
/-- The same of the rows of a slot. -/
theorem tile_of {o : Fin 3 → ℕ} {g : Fin 2} {k : Fin 8} (e : o = tileOff g k) (h : ∀ a, o a + S1x128x4096.size a ≤ S2x1024x4096.size a) :
    (bufM.slice (Rect.unit (s := S2x1024x4096) o S1x128x4096.size h) (fun _ => rfl)).squeeze S128x4096 squeezes_S1x128x4096_S128x4096 = tile g k := by
  subst e; rfl
/-- The same of the narrow rows of a slot. -/
theorem ntile_of {o : Fin 3 → ℕ} {g : Fin 2} {k : Fin 8} (e : o = tileOff g k) (h : ∀ a, o a + S1x128x1664.size a ≤ S2x1024x4096.size a) :
    (bufM.slice (Rect.unit (s := S2x1024x4096) o S1x128x1664.size h) (fun _ => rfl)).squeeze S128x1664 squeezes_S1x128x1664_S128x1664 = ntile g k := by
  subst e; rfl
/-- The same of the rows of a block of the result. -/
theorem piece_of {o : Fin 2 → ℕ} {b : Fin 24} {k : Fin 8} (e : o = pieceOff b k) (h : ∀ a, o a + S128x4096.size a ≤ S1024x100000.size a) :
    (outM.slice (Rect.unit (s := S1024x100000) o S128x4096.size h) (fun _ => rfl) : Memref sig .tc .hbm S128x4096 .f32) = piece b k := by subst e; rfl
/-- The same of the narrow rows of the last block. -/
theorem npiece_of {o : Fin 2 → ℕ} {k : Fin 8} (e : o = pieceOff 24 k) (h : ∀ a, o a + S128x1664.size a ≤ S1024x100000.size a) :
    (outM.slice (Rect.unit (s := S1024x100000) o S128x1664.size h) (fun _ => rfl) : Memref sig .tc .hbm S128x1664 .f32) = npiece k := by subst e; rfl
/-- The same of the slot stored into. -/
theorem storeBlock_of {o : Fin 3 → ℕ} {g : Fin 2} (e : o = slotOff g) (ho) (arg1 : Memref sig .tc .vmem S1024x33 .f32) (arg2 : Memref sig .tc .vmem S33x4096 .f32)
    (arg3 : Memref sig .tc .vmem S1024x1 .f32) (arg4 : Memref sig .tc .vmem S1024x1 .f32) (κ : P1 F) :
    storeBlock o ho arg1 arg2 arg3 arg4 κ = storeBlock (slotOff g) (slotOff_inb g) arg1 arg2 arg3 arg4 κ := by subst e; rfl

/-- What the body does after its waits: store the block, start its copies (the last step: start the narrow ones, then
    wait for step 23's copies and its own). -/
abbrev afterWaits (t : Fin grid1.N) (arg1 : Memref sig .tc .vmem S1024x33 .f32) (arg2 : Memref sig .tc .vmem S33x4096 .f32)
    (arg3 : Memref sig .tc .vmem S1024x1 .f32) (arg4 : Memref sig .tc .vmem S1024x1 .f32) : P1 F :=
  storeBlock (slotOff (sl 2 t.val)) (slotOff_inb _) arg1 arg2 arg3 arg4 <|
    if t.val < 24 then each8 (start (sl 2 t.val) (bk 24 t.val)) (pure ⟨⟩)
    else each8 (nstart 0) <| each8 (await 1 23) <| each8 (nawait 0) (pure ⟨⟩)

/-- The body, a step of the grid that waits. -/
theorem body_late (t : Fin grid1.N) (h : 2 ≤ t.val) (arg1 harg1 arg2 harg2 arg3 harg3 arg4 harg4 harg5 harg6) :
    cc1__prob_body (F := F) (grid1.coords t) arg1 harg1 arg2 harg2 arg3 harg3 arg4 harg4 outM harg5 bufM harg6 cc1_scratch1
      = each8 (await (sl 2 t.val) (bk 24 (t.val - 2))) (afterWaits t arg1 arg2 arg3 arg4) := by
  rw [cc1__prob_body_eq_skeleton]
  obtain ⟨a0, a1, a2, a3, a4, a5, a6, a7⟩ := await_cells t
  obtain ⟨b0, b1, b2, b3, b4, b5, b6, b7⟩ := await_pieces t h
  obtain ⟨c0, c1, c2, c3, c4, c5, c6, c7⟩ := await_tiles t
  unfold afterWaits
  rw [← storeBlock_of (store_off t) (k1_off25_inb _)]
  unfold cc1__prob_body_skel
  rw [k1_part1_eq_skeleton]
  have h1 := (cond1_iff t).2 h
  by_cases h2 : t.val < 24
  · obtain ⟨d0, d1, d2, d3, d4, d5, d6, d7⟩ := start_cells t
    obtain ⟨e0, e1, e2, e3, e4, e5, e6, e7⟩ := start_pieces t h2
    obtain ⟨f0, f1, f2, f3, f4, f5, f6, f7⟩ := start_tiles t
    have h3 : ¬ k1_cond3 (grid1.coords t) = 1#1 := fun e => absurd ((cond3_iff t).1 e) (by omega)
    rw [k1_part2_eq_skeleton]
    simp only [k1_part1_skel, k1_part2_skel, dif_pos h1, dif_pos ((cond2_iff t).2 h2), dif_neg h3, if_pos h2,
      cell_of a0, cell_of a1, cell_of a2, cell_of a3, cell_of a4, cell_of a5, cell_of a6, cell_of a7, piece_of b0, piece_of b1, piece_of b2, piece_of b3, piece_of b4, piece_of b5, piece_of b6, piece_of b7, tile_of c0, tile_of c1, tile_of c2, tile_of c3, tile_of c4, tile_of c5, tile_of c6, tile_of c7,
      cell_of d0, cell_of d1, cell_of d2, cell_of d3, cell_of d4, cell_of d5, cell_of d6, cell_of d7, piece_of e0, piece_of e1, piece_of e2, piece_of e3, piece_of e4, piece_of e5, piece_of e6, piece_of e7, tile_of f0, tile_of f1, tile_of f2, tile_of f3, tile_of f4, tile_of f5, tile_of f6, tile_of f7]
    rfl
  · have h24 : t.val = 24 := by have := t.isLt; simp only [show grid1.N = 25 from rfl] at this; omega
    obtain ⟨⟨d0, d1, d2, d3, d4, d5, d6, d7⟩, ⟨e0, e1, e2, e3, e4, e5, e6, e7⟩, ⟨f0, f1, f2, f3, f4, f5, f6, f7⟩⟩ := nstart_offs t h24
    have h2' : ¬ k1_cond2 (grid1.coords t) = 1#1 := fun e => absurd ((cond2_iff t).1 e) h2
    rw [k1_part3_eq_skeleton, k1_part4_eq_skeleton, k1_part5_eq_skeleton, k1_part6_eq_skeleton, k1_part7_eq_skeleton]
    simp only [k1_part1_skel, k1_part3_skel, k1_part4_skel, k1_part5_skel, k1_part6_skel, k1_part7_skel,
      dif_pos h1, dif_neg h2', dif_pos ((cond3_iff t).2 h24), if_neg h2,
      cell_of a0, cell_of a1, cell_of a2, cell_of a3, cell_of a4, cell_of a5, cell_of a6, cell_of a7, piece_of b0, piece_of b1, piece_of b2, piece_of b3, piece_of b4, piece_of b5, piece_of b6, piece_of b7, tile_of c0, tile_of c1, tile_of c2, tile_of c3, tile_of c4, tile_of c5, tile_of c6, tile_of c7,
      cell_of d0, cell_of d1, cell_of d2, cell_of d3, cell_of d4, cell_of d5, cell_of d6, cell_of d7, npiece_of e0, npiece_of e1, npiece_of e2, npiece_of e3, npiece_of e4, npiece_of e5, npiece_of e6, npiece_of e7, ntile_of f0, ntile_of f1, ntile_of f2, ntile_of f3, ntile_of f4, ntile_of f5, ntile_of f6, ntile_of f7]
    rfl

/-- The body, one of the first two steps. -/
theorem body_early (t : Fin grid1.N) (h : t.val < 2) (arg1 harg1 arg2 harg2 arg3 harg3 arg4 harg4 harg5 harg6) :
    cc1__prob_body (F := F) (grid1.coords t) arg1 harg1 arg2 harg2 arg3 harg3 arg4 harg4 outM harg5 bufM harg6 cc1_scratch1
      = afterWaits t arg1 arg2 arg3 arg4 := by
  rw [cc1__prob_body_eq_skeleton]
  have h2 : t.val < 24 := by omega
  unfold afterWaits
  rw [← storeBlock_of (store_off t) (k1_off25_inb _)]
  unfold cc1__prob_body_skel
  obtain ⟨d0, d1, d2, d3, d4, d5, d6, d7⟩ := start_cells t
  obtain ⟨e0, e1, e2, e3, e4, e5, e6, e7⟩ := start_pieces t h2
  obtain ⟨f0, f1, f2, f3, f4, f5, f6, f7⟩ := start_tiles t
  have h1 : ¬ k1_cond1 (grid1.coords t) = 1#1 := fun e => absurd ((cond1_iff t).1 e) (by omega)
  have h3 : ¬ k1_cond3 (grid1.coords t) = 1#1 := fun e => absurd ((cond3_iff t).1 e) (by omega)
  rw [k1_part2_eq_skeleton]
  simp only [k1_part2_skel, dif_neg h1, dif_pos ((cond2_iff t).2 h2), dif_neg h3, if_pos h2,
    cell_of d0, cell_of d1, cell_of d2, cell_of d3, cell_of d4, cell_of d5, cell_of d6, cell_of d7, piece_of e0, piece_of e1, piece_of e2, piece_of e3, piece_of e4, piece_of e5, piece_of e6, piece_of e7, tile_of f0, tile_of f1, tile_of f2, tile_of f3, tile_of f4, tile_of f5, tile_of f6, tile_of f7]
  rfl

end Cert.Proof.Kernel

end
-- ==== Proof.ProbBody.lean ====
/-
  The second region's body, step by step: what starting a copy, waiting for it, and storing a block do to the pieces of
  memory and the counters the region holds.
-/
module

public import proofs.«01_k».proof.Proof.ProbNames
public import Idealize.ShloMosaic.Lib.Pipeline.Kit
public import Idealize.ShloMosaic.Lib.Pointwise

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

/-- The ghost state: the pipeline's tokens and the copies' counters. -/
abbrev UU : Type := UR sig nD τ × Counters
local notation "𝕄" => MT nD τ sig Unit (Elt F) ℕ UU ℕ
/-- No loop of the bodies needs a variant. -/
abbrev 𝒱₀ : Variants := Variants.none

omit [FloatOps F] in
/-- Equal assertions entail each other. -/
theorem entails_of_eq {P Q : sProp 𝕄} (e : P = Q) : P ⊢ Q := e ▸ .rfl

variable (c : Dev nD)

/-- The run of a program on core `c`, ending in `Q`. -/
abbrev runs (κ : P1 F) (Q : PUnit → sProp 𝕄) : sProp 𝕄 := wp frame (wpE (defs₀ (F := F)) 𝒱₀ (c : Thread nD τ) none) Set.univ κ Q

/-- The contents of the result, and of the scratch. -/
abbrev OutB (F : FTy → Type) (c : Dev nD) : Type := Buf (Elt F) ((c : Thread nD τ).loc main_v23)
/-- The contents of the scratch. -/
abbrev BufB (F : FTy → Type) (c : Dev nD) : Type := Buf (Elt F) ((c : Thread nD τ).loc cc1_scratch0)
/-- The result's elements `S` at `f`; the scratch's. -/
abbrev outP (S : Finset S1024x100000.Idx) (f : OutB F c) : sProp 𝕄 := ((c : Thread nD τ).loc main_v23) ↦[S]{fullShare} f
/-- The scratch's elements `S` at `f`. -/
abbrev bufP (S : Finset S2x1024x4096.Idx) (f : BufB F c) : sProp 𝕄 := ((c : Thread nD τ).loc cc1_scratch0) ↦[S]{fullShare} f
/-- Copy `k` of slot `g` not running: its counter at zero. -/
abbrev cellP (g : Fin 2) (k : Fin 8) : sProp 𝕄 := semVal ((c : Thread nD τ), SemLoc.dma (cell g k).sem) 0
/-- What the core owes: nothing. -/
abbrev oweP : sProp 𝕄 := iprop(∃ W, owes (c : Thread nD τ) (0 : CellTallies nD τ sig Unit) W)

/-- Copy `k` of slot `g` into block `b` running: at its end the block's piece holds `O` and the tile is back, holding `E`. -/
abbrev flightP (g : Fin 2) (b : Fin 24) (E : BufB F c) (O : OutB F c) (k : Fin 8) : sProp 𝕄 :=
  Transfers.Flight countersEmb (c : Thread nD τ) (SemLoc.dma (cell g k).sem) () ((piece b k).view.amount (SemLoc.dma (cell g k).sem))
    iprop(outP c (piece b k).view.set O ∗ bufP c (tile g k).view.set E)
/-- The same of a narrow copy into the last block. -/
abbrev nflightP (g : Fin 2) (E : BufB F c) (O : OutB F c) (k : Fin 8) : sProp 𝕄 :=
  Transfers.Flight countersEmb (c : Thread nD τ) (SemLoc.dma (cell g k).sem) () ((npiece k).view.amount (SemLoc.dma (cell g k).sem))
    iprop(outP c (npiece k).view.set O ∗ bufP c (ntile g k).view.set E)

/-! ## One copy -/

section Copy
variable {s : Shape} {sm : DmaSem sig} (src : Memref sig .tc .vmem s .f32) (dst : Memref sig .tc .hbm s .f32)
  {hsrc : src.view.WordExact} {hdst : dst.view.WordExact}

/-- Starting a copy: it takes the tile, the piece and the counter, and runs; at its end the piece holds any `O` that agrees
    with the tile's `E` index by index. -/
theorem start_copy (hs0 : 0 < s.numel) {hsem} (E : Buf (Elt F) (src.view.loc (c : Thread nD τ))) (A O : Buf (Elt F) (dst.view.loc (c : Thread nD τ)))
    (hO : ∀ x : s.Idx, dst.view.read (Elt F) O x = src.view.read (Elt F) E x) (κ : P1 F) (Q : PUnit → sProp 𝕄) :
    iprop((src.view.loc (c : Thread nD τ) ↦[src.view.set]{fullShare} E) ∗ (dst.view.loc (c : Thread nD τ) ↦[dst.view.set]{fullShare} A)
        ∗ semVal ((c : Thread nD τ), SemLoc.dma sm) 0)
      ⊢ iprop((Transfers.Flight countersEmb (c : Thread nD τ) (SemLoc.dma sm) () (dst.view.amount (SemLoc.dma sm))
            iprop((dst.view.loc (c : Thread nD τ) ↦[dst.view.set]{fullShare} O) ∗ (src.view.loc (c : Thread nD τ) ↦[src.view.set]{fullShare} E))
              -∗ runs c κ Q)
          -∗ runs c (Prog.lift (.enqueueDma src (.here dst) (.dma sm) hsrc hdst hsem) >>= fun _ => κ) Q) := by
  iintro H Hk
  iapply (Transfers.wp_dmaLocal countersEmb 𝒱₀ (c : Thread nD τ) none (via := ReadAs.same) () _ rfl
    (View.amount_pos _ _ hs0) (Finset.Subset.refl dst.view.set)) $$ H
  iintro Hf
  iapply Hk
  iapply (Transfers.Flight_mono countersEmb (c : Thread nD τ) (sep_mono_left (entails_of_eq (pointsTo_congr ?_)))) $$ Hf
  intro y hy
  obtain ⟨x, -, rfl⟩ := Finset.mem_map.1 hy
  rw [View.write_emb_of_mem _ _ (Finset.mem_univ x)]
  have e := hO x
  rw [View.read_apply] at e
  rw [show ReadAs.same.apply (src.view.read (Elt F) E) x = src.view.read (Elt F) E x from rfl, ← e, cast_cast, cast_eq]

/-- Waiting for it. -/
theorem await_copy (D : sProp 𝕄) (κ : P1 F) (Q : PUnit → sProp 𝕄) :
    iprop(Transfers.Flight countersEmb (c : Thread nD τ) (SemLoc.dma sm) () (dst.view.amount (SemLoc.dma sm)) D ∗ oweP (F := F) c)
      ⊢ iprop((iprop((semVal ((c : Thread nD τ), SemLoc.dma sm) 0 ∗ D) ∗ oweP (F := F) c) -∗ runs c κ Q)
          -∗ runs c (Prog.lift (.waitDma2 sm src dst hsrc hdst) >>= fun _ => κ) Q) := by
  iintro ⟨Hf, ⟨%W, Ho⟩⟩ Hk
  iapply (Transfers.wp_waitLocal countersEmb 𝒱₀ (c : Thread nD τ) none () rfl) $$ [Hf Ho]
  · isplitl [Hf]; · iexact Hf
    iexact Ho
  iintro ⟨HD, Hv, Ho⟩
  iapply Hk
  isplitl [HD Hv]
  · isplitl [Hv]; · iexact Hv
    iexact HD
  iexists _; iexact Ho

end Copy

/-! ## Eight in a row -/

omit [FloatOps F] in
/-- Eight assertions together, one after the other. -/
theorem bigSep_fin8 (P : Fin 8 → sProp 𝕄) : bigSep Finset.univ P = iprop(P 0 ∗ P 1 ∗ P 2 ∗ P 3 ∗ P 4 ∗ P 5 ∗ P 6 ∗ P 7) :=
  bigSep_univ_eq_bigSepL [(0 : Fin 8), 1, 2, 3, 4, 5, 6, 7] (by decide) (by decide) P

/-- Eight programs in a row: each turns its own part `R k` into `R' k`, keeping what they share. -/
theorem each8_run (f : Fin 8 → P1 F) (R R' : Fin 8 → sProp 𝕄) (S : sProp 𝕄) (Q : PUnit → sProp 𝕄)
    (h : ∀ k κ, iprop(R k ∗ S) ⊢ iprop((iprop(R' k ∗ S) -∗ runs c κ Q) -∗ runs c (f k >>= fun _ => κ) Q)) (κ : P1 F) :
    iprop(bigSep Finset.univ R ∗ S) ⊢ iprop((iprop(bigSep Finset.univ R' ∗ S) -∗ runs c κ Q) -∗ runs c (each8 f κ) Q) := by
  rw [bigSep_fin8, bigSep_fin8]
  iintro ⟨⟨H0, H1, H2, H3, H4, H5, H6, H7⟩, HS⟩ Hk
  unfold each8
  iapply (h 0 _) $$ [H0 HS]; · isplitl [H0] <;> iassumption
  iintro ⟨H0, HS⟩
  iapply (h 1 _) $$ [H1 HS]; · isplitl [H1] <;> iassumption
  iintro ⟨H1, HS⟩
  iapply (h 2 _) $$ [H2 HS]; · isplitl [H2] <;> iassumption
  iintro ⟨H2, HS⟩
  iapply (h 3 _) $$ [H3 HS]; · isplitl [H3] <;> iassumption
  iintro ⟨H3, HS⟩
  iapply (h 4 _) $$ [H4 HS]; · isplitl [H4] <;> iassumption
  iintro ⟨H4, HS⟩
  iapply (h 5 _) $$ [H5 HS]; · isplitl [H5] <;> iassumption
  iintro ⟨H5, HS⟩
  iapply (h 6 _) $$ [H6 HS]; · isplitl [H6] <;> iassumption
  iintro ⟨H6, HS⟩
  iapply (h 7 _) $$ [H7 HS]; · isplitl [H7] <;> iassumption
  iintro ⟨H7, HS⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HS

/-! ## The slot and its tiles, the block and its pieces -/

/-- Slot `g` of the scratch; the columns of block `u` of the result. -/
def slotSet (g : Fin 2) : Finset S2x1024x4096.Idx := Finset.univ.filter fun y => (y 0).val = g.val
/-- The columns of block `u` of the result, short of column 99968, where the copies end. -/
def colSet (u : ℕ) : Finset S1024x100000.Idx := Finset.univ.filter fun y => 4096 * u ≤ (y 1).val ∧ (y 1).val < 4096 * (u + 1) ∧ (y 1).val < 99968

/-- Membership of a slot, by the first coordinate. -/
theorem mem_slotSet {g : Fin 2} {y : S2x1024x4096.Idx} : y ∈ slotSet g ↔ (y 0).val = g.val := by simp [slotSet]
/-- Membership of a block, by the column. -/
theorem mem_colSet {u : ℕ} {y : S1024x100000.Idx} : y ∈ colSet u ↔ 4096 * u ≤ (y 1).val ∧ (y 1).val < 4096 * (u + 1) ∧ (y 1).val < 99968 := by
  simp [colSet]

/-- The elements of copy `k`'s rows of slot `g`, as a rectangle of the scratch. -/
theorem tile_set (g : Fin 2) (k : Fin 8) :
    (tile g k).view.set = (Rect.unit (s := S2x1024x4096) (tileOff g k) S1x128x4096.size (tileOff_inb g k)).set :=
  (View.set_reshape _ _).trans (View.set_slice_whole _ _)
/-- The same of the narrow rows. -/
theorem ntile_set (g : Fin 2) (k : Fin 8) :
    (ntile g k).view.set = (Rect.unit (s := S2x1024x4096) (tileOff g k) S1x128x1664.size (ntileOff_inb g k)).set :=
  (View.set_reshape _ _).trans (View.set_slice_whole _ _)
/-- The elements of copy `k`'s rows of block `b`, as a rectangle of the result. -/
theorem piece_set (b : Fin 24) (k : Fin 8) :
    (piece b k).view.set = (Rect.unit (s := S1024x100000) (pieceOff b k) S128x4096.size (pieceOff_inb b k)).set := View.set_slice_whole _ _
/-- The same of the last block. -/
theorem npiece_set (k : Fin 8) :
    (npiece k).view.set = (Rect.unit (s := S1024x100000) (pieceOff 24 k) S128x1664.size (npieceOff_inb k)).set := View.set_slice_whole _ _

/-- Membership of a copy's rows of a slot, by coordinates. -/
theorem mem_tile {g : Fin 2} {k : Fin 8} {y : S2x1024x4096.Idx} :
    y ∈ (tile g k).view.set ↔ (y 0).val = g.val ∧ 128 * k.val ≤ (y 1).val ∧ (y 1).val < 128 * k.val + 128 := by
  rw [tile_set, Rect.mem_set_unit]
  have h2 : (y 2).val < 4096 := (y 2).isLt
  constructor
  · intro H
    have a0 : g.val ≤ (y 0).val ∧ (y 0).val < g.val + 1 := H 0
    have a1 : 128 * k.val ≤ (y 1).val ∧ (y 1).val < 128 * k.val + 128 := H 1
    omega
  · rintro ⟨h0, h1, h1'⟩ i; fin_cases i
    · show g.val ≤ (y 0).val ∧ (y 0).val < g.val + 1; omega
    · show 128 * k.val ≤ (y 1).val ∧ (y 1).val < 128 * k.val + 128; omega
    · show 0 ≤ (y 2).val ∧ (y 2).val < 0 + 4096; omega
/-- The same of the narrow rows. -/
theorem mem_ntile {g : Fin 2} {k : Fin 8} {y : S2x1024x4096.Idx} :
    y ∈ (ntile g k).view.set ↔ (y 0).val = g.val ∧ (128 * k.val ≤ (y 1).val ∧ (y 1).val < 128 * k.val + 128) ∧ (y 2).val < 1664 := by
  rw [ntile_set, Rect.mem_set_unit]
  constructor
  · intro H
    have a0 : g.val ≤ (y 0).val ∧ (y 0).val < g.val + 1 := H 0
    have a1 : 128 * k.val ≤ (y 1).val ∧ (y 1).val < 128 * k.val + 128 := H 1
    have a2 : 0 ≤ (y 2).val ∧ (y 2).val < 0 + 1664 := H 2
    omega
  · rintro ⟨h0, ⟨h1, h1'⟩, h2⟩ i; fin_cases i
    · show g.val ≤ (y 0).val ∧ (y 0).val < g.val + 1; omega
    · show 128 * k.val ≤ (y 1).val ∧ (y 1).val < 128 * k.val + 128; omega
    · show 0 ≤ (y 2).val ∧ (y 2).val < 0 + 1664; omega
/-- Membership of a copy's rows of a block, by coordinates. -/
theorem mem_piece {b : Fin 24} {k : Fin 8} {y : S1024x100000.Idx} :
    y ∈ (piece b k).view.set ↔ (128 * k.val ≤ (y 0).val ∧ (y 0).val < 128 * k.val + 128) ∧ 4096 * b.val ≤ (y 1).val ∧ (y 1).val < 4096 * b.val + 4096 := by
  rw [piece_set, Rect.mem_set_unit]
  constructor
  · intro H; exact ⟨H 0, H 1⟩
  · rintro ⟨h0, h1⟩ i; fin_cases i
    · exact h0
    · exact h1
/-- The same of the last block. -/
theorem mem_npiece {k : Fin 8} {y : S1024x100000.Idx} :
    y ∈ (npiece k).view.set ↔ (128 * k.val ≤ (y 0).val ∧ (y 0).val < 128 * k.val + 128) ∧ 4096 * 24 ≤ (y 1).val ∧ (y 1).val < 4096 * 24 + 1664 := by
  rw [npiece_set, Rect.mem_set_unit]
  constructor
  · intro H; exact ⟨H 0, H 1⟩
  · rintro ⟨h0, h1⟩ i; fin_cases i
    · exact h0
    · exact h1

/-- Rows in different bands of 128 differ, so pieces with different `k` are apart. -/
theorem disjoint_of_rows {s : Shape} (J : Fin 8 → Finset s.Idx) (row : s.Idx → ℕ)
    (h : ∀ k y, y ∈ J k → 128 * k.val ≤ row y ∧ row y < 128 * k.val + 128) :
    ∀ k ∈ (Finset.univ : Finset (Fin 8)), ∀ k' ∈ (Finset.univ : Finset (Fin 8)), k ≠ k' → Disjoint (J k) (J k') := by
  intro k _ k' _ hne
  rw [Finset.disjoint_left]; intro y hy hy'
  have a := h k y hy; have b := h k' y hy'
  exact hne (Fin.ext (by omega))

/-- The band of 128 rows a row lies in. -/
theorem band (n : ℕ) (h : n < 1024) : ∃ k : Fin 8, 128 * k.val ≤ n ∧ n < 128 * k.val + 128 :=
  ⟨⟨n / 128, by omega⟩, by dsimp only; omega, by dsimp only; omega⟩

/-- A slot is the union of its eight copies' rows. -/
theorem slot_tiles (g : Fin 2) : slotSet g = Finset.univ.biUnion fun k => (tile g k).view.set := by
  ext y
  rw [mem_slotSet, Finset.mem_biUnion]
  constructor
  · intro h
    obtain ⟨k, hk⟩ := band (y 1).val (y 1).isLt
    exact ⟨k, Finset.mem_univ _, mem_tile.2 ⟨h, hk⟩⟩
  · intro H
    obtain ⟨k, -, h⟩ := H
    exact (mem_tile.1 h).1
/-- A block is the union of its eight copies' rows. -/
theorem col_pieces (b : Fin 24) : colSet b = Finset.univ.biUnion fun k => (piece b k).view.set := by
  ext y
  have hb := b.isLt
  rw [mem_colSet, Finset.mem_biUnion]
  constructor
  · intro h
    obtain ⟨k, hk⟩ := band (y 0).val (y 0).isLt
    exact ⟨k, Finset.mem_univ _, mem_piece.2 ⟨hk, h.1, by omega⟩⟩
  · intro H
    obtain ⟨k, -, h⟩ := H
    have := (mem_piece.1 h).2
    omega
/-- So is the last block. -/
theorem col_npieces : colSet 24 = Finset.univ.biUnion fun k => (npiece k).view.set := by
  ext y
  rw [mem_colSet, Finset.mem_biUnion]
  constructor
  · intro h
    obtain ⟨k, hk⟩ := band (y 0).val (y 0).isLt
    exact ⟨k, Finset.mem_univ _, mem_npiece.2 ⟨hk, by omega, by omega⟩⟩
  · intro H
    obtain ⟨k, -, h⟩ := H
    have := (mem_npiece.1 h).2
    omega
/-- The narrow tiles of slot `g`. -/
def nslotSet (g : Fin 2) : Finset S2x1024x4096.Idx := Finset.univ.biUnion fun k => (ntile g k).view.set
/-- What the narrow copies send is a part of the slot. -/
theorem nslot_sub (g : Fin 2) : nslotSet g ⊆ slotSet g := by
  intro y H
  obtain ⟨k, -, h⟩ := Finset.mem_biUnion.1 H
  exact mem_slotSet.2 (mem_ntile.1 h).1

omit [FloatOps F] in
/-- The slot at one contents is its tiles at them; the block is its pieces. -/
theorem slot_eq (g : Fin 2) (f : BufB F c) : (bufP c (slotSet g) f : sProp 𝕄) = bigSep Finset.univ fun k => bufP c (tile g k).view.set f := by
  rw [slot_tiles]; exact pointsTo_biUnion _ _ (disjoint_of_rows _ (fun y => (y 1).val) fun k y hy => (mem_tile.1 hy).2)
omit [FloatOps F] in
/-- Holding what the narrow copies send is holding their eight parts. -/
theorem nslot_eq (g : Fin 2) (f : BufB F c) : (bufP c (nslotSet g) f : sProp 𝕄) = bigSep Finset.univ fun k => bufP c (ntile g k).view.set f :=
  pointsTo_biUnion _ _ (disjoint_of_rows _ (fun y => (y 1).val) fun k y hy => (mem_ntile.1 hy).2.1)
omit [FloatOps F] in
/-- Holding a block of the result is holding its eight parts. -/
theorem col_eq (b : Fin 24) (f : OutB F c) : (outP c (colSet b) f : sProp 𝕄) = bigSep Finset.univ fun k => outP c (piece b k).view.set f := by
  rw [col_pieces]; exact pointsTo_biUnion _ _ (disjoint_of_rows _ (fun y => (y 0).val) fun k y hy => (mem_piece.1 hy).1)
omit [FloatOps F] in
/-- So for the last block. -/
theorem ncol_eq (f : OutB F c) : (outP c (colSet 24) f : sProp 𝕄) = bigSep Finset.univ fun k => outP c (npiece k).view.set f := by
  rw [col_npieces]; exact pointsTo_biUnion _ _ (disjoint_of_rows _ (fun y => (y 0).val) fun k y hy => (mem_npiece.1 hy).1)

/-! ## Eight copies -/

/-- Slot `g`'s eight counters at zero. -/
abbrev cellsP (g : Fin 2) : sProp 𝕄 := bigSep Finset.univ (cellP (F := F) c g)

/-- Block `b` of the result, from `O`, is what slot `g` holds, from `E`. -/
def Agree (g : Fin 2) (u w : ℕ) (E : BufB F c) (O : OutB F c) : Prop :=
  ∀ (x : S1024x100000.Idx) (y : S2x1024x4096.Idx), (y 0).val = g.val → (y 1).val = (x 0).val → (x 1).val = 4096 * u + (y 2).val → (y 2).val < w → O x = E y

/-- Where an element of a copy's source lies in the scratch. -/
theorem tile_emb (g : Fin 2) (k : Fin 8) (x : S128x4096.Idx) :
    ((tile g k).view.emb x 0).val = g.val ∧ ((tile g k).view.emb x 1).val = 128 * k.val + (x 0).val ∧ ((tile g k).view.emb x 2).val = (x 1).val := by
  have e : (tile g k).view.emb x = (Rect.unit (s := S2x1024x4096) (tileOff g k) S1x128x4096.size (tileOff_inb g k)).emb (Fin.cons ⟨0, Nat.one_pos⟩ x) :=
    congrArg (Rect.unit (s := S2x1024x4096) (tileOff g k) S1x128x4096.size (tileOff_inb g k)).emb (Shape.reshapeEquiv_cons_one _ x)
  rw [e]
  refine ⟨?_, ?_, ?_⟩
  · show g.val + 1 * 0 = _; omega
  · show 128 * k.val + 1 * (x 0).val = _; omega
  · show 0 + 1 * (x 1).val = _; omega
/-- The same of a narrow copy. -/
theorem ntile_emb (g : Fin 2) (k : Fin 8) (x : S128x1664.Idx) :
    ((ntile g k).view.emb x 0).val = g.val ∧ ((ntile g k).view.emb x 1).val = 128 * k.val + (x 0).val ∧ ((ntile g k).view.emb x 2).val = (x 1).val := by
  have e : (ntile g k).view.emb x = (Rect.unit (s := S2x1024x4096) (tileOff g k) S1x128x1664.size (ntileOff_inb g k)).emb (Fin.cons ⟨0, Nat.one_pos⟩ x) :=
    congrArg (Rect.unit (s := S2x1024x4096) (tileOff g k) S1x128x1664.size (ntileOff_inb g k)).emb (Shape.reshapeEquiv_cons_one _ x)
  rw [e]
  refine ⟨?_, ?_, ?_⟩
  · show g.val + 1 * 0 = _; omega
  · show 128 * k.val + 1 * (x 0).val = _; omega
  · show 0 + 1 * (x 1).val = _; omega
/-- Where an element of a copy's destination lies in the result. -/
theorem piece_emb (b : Fin 24) (k : Fin 8) (x : S128x4096.Idx) :
    ((piece b k).view.emb x 0).val = 128 * k.val + (x 0).val ∧ ((piece b k).view.emb x 1).val = 4096 * b.val + (x 1).val := by
  constructor
  · show 128 * k.val + 1 * (x 0).val = _; omega
  · show 4096 * b.val + 1 * (x 1).val = _; omega
/-- The same of a narrow copy. -/
theorem npiece_emb (k : Fin 8) (x : S128x1664.Idx) :
    ((npiece k).view.emb x 0).val = 128 * k.val + (x 0).val ∧ ((npiece k).view.emb x 1).val = 4096 * 24 + (x 1).val := by
  constructor
  · show 128 * k.val + 1 * (x 0).val = _; omega
  · show 4096 * 24 + 1 * (x 1).val = _; omega

/-- Waiting for the eight copies of a block: the block, the slot and the counters are back. -/
theorem awaits (g : Fin 2) (b : Fin 24) (E : BufB F c) (O : OutB F c) (κ : P1 F) (Q : PUnit → sProp 𝕄) :
    iprop(bigSep Finset.univ (flightP c g b E O) ∗ oweP (F := F) c)
      ⊢ iprop((iprop((cellsP (F := F) c g ∗ outP c (colSet b) O ∗ bufP c (slotSet g) E) ∗ oweP (F := F) c) -∗ runs c κ Q)
          -∗ runs c (each8 (await g b) κ) Q) := by
  rw [slot_eq, col_eq, ← BI.bigSep_sep', ← BI.bigSep_sep']
  exact each8_run c (await g b) _ _ _ Q (fun k κ => await_copy c (tile g k) (piece b k) _ κ Q) κ
/-- Waiting for the eight narrow copies. -/
theorem nawaits (g : Fin 2) (E : BufB F c) (O : OutB F c) (κ : P1 F) (Q : PUnit → sProp 𝕄) :
    iprop(bigSep Finset.univ (nflightP c g E O) ∗ oweP (F := F) c)
      ⊢ iprop((iprop((cellsP (F := F) c g ∗ outP c (colSet 24) O ∗ bufP c (nslotSet g) E) ∗ oweP (F := F) c) -∗ runs c κ Q)
          -∗ runs c (each8 (nawait g) κ) Q) := by
  rw [nslot_eq, ncol_eq, ← BI.bigSep_sep', ← BI.bigSep_sep']
  exact each8_run c (nawait g) _ _ _ Q (fun k κ => await_copy c (ntile g k) (npiece k) _ κ Q) κ

/-- Starting them. -/
theorem starts (g : Fin 2) (b : Fin 24) (E : BufB F c) (A O : OutB F c) (hO : Agree c g b 4096 E O) (κ : P1 F) (Q : PUnit → sProp 𝕄) :
    iprop((bufP c (slotSet g) E ∗ outP c (colSet b) A ∗ cellsP (F := F) c g) ∗ oweP (F := F) c)
      ⊢ iprop((iprop(bigSep Finset.univ (flightP c g b E O) ∗ oweP (F := F) c) -∗ runs c κ Q) -∗ runs c (each8 (start g b) κ) Q) := by
  rw [slot_eq, col_eq, ← BI.bigSep_sep', ← BI.bigSep_sep']
  refine each8_run c (start g b) _ _ _ Q (fun k κ => ?_) κ
  iintro ⟨H, HO⟩ Hk
  iapply (start_copy c (tile g k) (piece b k) (by decide +kernel) E A O (fun x => ?_) κ Q) $$ H
  · obtain ⟨t0, t1, t2⟩ := tile_emb g k x
    obtain ⟨p0, p1⟩ := piece_emb b k x
    exact hO _ _ t0 (t1.trans p0.symm) (by rw [p1, t2]) (by rw [t2]; exact (x 1).isLt)
  iintro H; iapply Hk; isplitl [H] <;> iassumption
/-- Starting the eight narrow copies. -/
theorem nstarts (g : Fin 2) (E : BufB F c) (A O : OutB F c) (hO : Agree c g 24 1664 E O) (κ : P1 F) (Q : PUnit → sProp 𝕄) :
    iprop((bufP c (nslotSet g) E ∗ outP c (colSet 24) A ∗ cellsP (F := F) c g) ∗ oweP (F := F) c)
      ⊢ iprop((iprop(bigSep Finset.univ (nflightP c g E O) ∗ oweP (F := F) c) -∗ runs c κ Q) -∗ runs c (each8 (nstart g) κ) Q) := by
  rw [nslot_eq, ncol_eq, ← BI.bigSep_sep', ← BI.bigSep_sep']
  refine each8_run c (nstart g) _ _ _ Q (fun k κ => ?_) κ
  iintro ⟨H, HO⟩ Hk
  iapply (start_copy c (ntile g k) (npiece k) (by decide +kernel) E A O (fun x => ?_) κ Q) $$ H
  · obtain ⟨t0, t1, t2⟩ := ntile_emb g k x
    obtain ⟨p0, p1⟩ := npiece_emb k x
    exact hO _ _ t0 (t1.trans p0.symm) (by rw [p1, t2]) (by rw [t2]; exact (x 1).isLt)
  iintro H; iapply Hk; isplitl [H] <;> iassumption

/-! ## The block's store -/

/-- A slot's contents: the stored block, whatever the slot. -/
def slotOf (P : FVec F S1x1024x4096 .f32) : BufB F c := fun y => P (ix3 0 (y 1) (y 2))

section Store
variable (arg1 : Memref sig .tc .vmem S1024x33 .f32) (arg2 : Memref sig .tc .vmem S33x4096 .f32)
  (arg3 : Memref sig .tc .vmem S1024x1 .f32) (arg4 : Memref sig .tc .vmem S1024x1 .f32)

/-- The staged blocks at some contents. -/
abbrev stagedP (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ))) : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4))

/-- What a load reads is a part of its buffer. -/
theorem load_sub {s : Shape} {cs : CoreSpace} (m : Memref sig .tc cs s .f32) (r : LoadRect s) : m.view.setOn r.set ⊆ m.view.set :=
  Finset.map_subset_map.2 (Finset.subset_univ _)

/-- A store into a slot writes that slot's elements. -/
theorem slot_access (g : Fin 2) :
    (bufM.access (Rect.unit (s := S2x1024x4096) (slotOff g) S1x1024x4096.size (slotOff_inb g))).set = slotSet g := by
  have e : (bufM.access (Rect.unit (s := S2x1024x4096) (slotOff g) S1x1024x4096.size (slotOff_inb g))).set
      = (Rect.unit (s := S2x1024x4096) (slotOff g) S1x1024x4096.size (slotOff_inb g)).set := View.set_slice_whole _ _
  rw [e]
  ext y
  rw [Rect.mem_set_unit, mem_slotSet]
  have h1 : (y 1).val < 1024 := (y 1).isLt
  have h2 : (y 2).val < 4096 := (y 2).isLt
  constructor
  · intro H
    have a0 : g.val ≤ (y 0).val ∧ (y 0).val < g.val + 1 := H 0
    omega
  · intro h0 i; fin_cases i
    · show g.val ≤ (y 0).val ∧ (y 0).val < g.val + 1; omega
    · show 0 ≤ (y 1).val ∧ (y 1).val < 0 + 1024; omega
    · show 0 ≤ (y 2).val ∧ (y 2).val < 0 + 4096; omega

/-- A load of a whole block reads the block. -/
theorem full {n m : ℕ} (v : View sig .tc .vmem ⟨2, ![n, m]⟩ .f32) (f : v.ty.Contents (Elt F)) (inb : ∀ a, (![0, 0] : Fin 2 → ℕ) a + (![n, m] : Fin 2 → ℕ) a ≤ (![n, m] : Fin 2 → ℕ) a) :
    v.readAt (Elt F) (Rect.unit (s := ⟨2, ![n, m]⟩) ![0, 0] ![n, m] inb).toLoadRect f = v.read (Elt F) f :=
  funext fun y => congrArg (v.read (Elt F) f) (funext fun a => Fin.ext (by
    fin_cases a
    · show 0 + 1 * (y 0).val = (y 0).val; omega
    · show 0 + 1 * (y 1).val = (y 1).val; omega))

/-- The store: from the four operands' blocks the slot takes the step's block. -/
theorem store_run (g : Fin 2) (f1 f2 f3 f4) (f : BufB F c) (κ : P1 F) (Q : PUnit → sProp 𝕄) :
    iprop(stagedP c arg1 arg2 arg3 arg4 f1 f2 f3 f4 ∗ bufP c (slotSet g) f)
      ⊢ iprop((iprop(stagedP c arg1 arg2 arg3 arg4 f1 f2 f3 f4 ∗ bufP c (slotSet g)
            (slotOf c (k1_pay1 (arg1.view.read (Elt F) f1) (arg2.view.read (Elt F) f2) (arg3.view.read (Elt F) f3) (arg4.view.read (Elt F) f4)))) -∗ runs c κ Q)
          -∗ runs c (storeBlock (slotOff g) (slotOff_inb g) arg1 arg2 arg3 arg4 κ) Q) := by
  iintro ⟨⟨H1, H2, H3, H4⟩, H⟩ Hk
  unfold storeBlock
  iapply (wp_load 𝒱₀ (c : Thread nD τ) none Set.univ (S := arg1.view.set) (load_sub _ _)) $$ H1
  iintro H1
  iapply (wp_load 𝒱₀ (c : Thread nD τ) none Set.univ (S := arg2.view.set) (load_sub _ _)) $$ H2
  iintro H2
  iapply (wp_load 𝒱₀ (c : Thread nD τ) none Set.univ (S := arg3.view.set) (load_sub _ _)) $$ H3
  iintro H3
  iapply (wp_load 𝒱₀ (c : Thread nD τ) none Set.univ (S := arg4.view.set) (load_sub _ _)) $$ H4
  iintro H4
  iapply (wp_load_rect 𝒱₀ (c : Thread nD τ) none Set.univ (m := bufM) (r := Rect.unit (s := S2x1024x4096) (slotOff g) S1x1024x4096.size (slotOff_inb g)) (S := slotSet g) (slot_access g).le) $$ H
  iintro H
  iapply (wp_store 𝒱₀ (c : Thread nD τ) none Set.univ (m := bufM) (r := Rect.unit (s := S2x1024x4096) (slotOff g) S1x1024x4096.size (slotOff_inb g)) (S := slotSet g) (slot_access g).le) $$ H
  iintro H
  rw [full, full, full, full]
  iapply Hk
  isplitl [H1 H2 H3 H4]
  · isplitl [H1]; · iexact H1
    isplitl [H2]; · iexact H2
    isplitl [H3] <;> iassumption
  iapply (entails_of_eq (pointsTo_congr ?_)) $$ H
  intro y hy
  rw [← slot_access] at hy
  obtain ⟨x, -, rfl⟩ := Finset.mem_map.1 hy
  rw [View.write_emb_of_mem _ _ (Finset.mem_univ x)]
  refine (eq_of_heq (cast_heq _ _)).trans ?_
  unfold slotOf
  congr 1
  funext a; fin_cases a
  · exact Subsingleton.elim (α := Fin 1) _ _
  · refine Fin.ext ?_; show (x 1).val = 0 + 1 * (x 1).val; omega
  · refine Fin.ext ?_; show (x 2).val = 0 + 1 * (x 2).val; omega

end Store

end Cert.Proof.Kernel

end
-- ==== Proof.SumRegion.lean ====
/-
  The first region: it sums, over the blocks of columns, the exponentials of the shifted logits of every row.  Its one output block
  is held across the grid: step 0 stores its own row sums there and every later step adds its own.
-/
module

public import proofs.«01_k».proof.Proof.ProbBody
public import proofs.«01_k».proof.Proof.Gen.Kernel.Launch
public import proofs.«01_k».proof.Proof.Gen.Kernel.Points
public import Idealize.ShloMosaic.Lib.Pipeline.FrameBody

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.Ring (sl bk bk_val)

variable {F : FTy → Type} [FloatOps F]
local notation "𝕄" => MT nD τ sig Unit (Elt F) ℕ UU ℕ

variable (V : Dev nD → Valuation τ sig (Elt F)) (c : Dev nD)

/-! ## The values -/

/-- The block window `w` of the region shows at step `t`. -/
def iblk0 (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The row sums after step `n`. -/
def accAt : (n : ℕ) → n < cfg0.N → FVec F S1024x1 .f32
  | 0, h => k0_pay1 (iblk0 V c 0 ⟨0, h⟩) (iblk0 V c 1 ⟨0, h⟩) (iblk0 V c 2 ⟨0, h⟩)
  | n + 1, h => k0_pay2 (iblk0 V c 0 ⟨n + 1, h⟩) (iblk0 V c 1 ⟨n + 1, h⟩) (iblk0 V c 2 ⟨n + 1, h⟩) (accAt n (Nat.lt_of_succ_lt h))

/-- The step that starts the sums is the first. -/
theorem first_iff : ∀ t : Fin grid0.N, k0_cond1 (grid0.coords t) = 1#1 ↔ t.val = 0 := by decide +kernel
/-- The steps that add to them are the others. -/
theorem later_iff : ∀ t : Fin grid0.N, k0_cond2 (grid0.coords t) = 1#1 ↔ t.val ≠ 0 := by decide +kernel
/-- No step leaves the sums' window idle. -/
theorem busy : ∀ t : Fin cfg0.N, cfg0.idle 3 (cfg0.grid.coords t) = false := by
  show ∀ t : Fin grid0.N, idle0 3 (grid0.coords t) = false
  decide +kernel

/-! ## One step -/

section Step
variable (arg1 : Memref sig .tc .vmem S1024x33 .f32) (arg2 : Memref sig .tc .vmem S33x4096 .f32)
  (arg3 : Memref sig .tc .vmem S1024x1 .f32) (arg4 : Memref sig .tc .vmem S1024x1 .f32)
  (harg1 : arg1.IsWhole) (harg2 : arg2.IsWhole) (harg3 : arg3.IsWhole) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))

/-- The whole of a 1024 by 1 block. -/
abbrev fullR : Rect S1024x1 := Rect.unit (s := S1024x1) ![0, 0] S1024x1.size inb_S1024x1_S1024x1_0_0

/-- A store of a whole block leaves the block. -/
theorem read_stored (w : FVec F S1024x1 .f32) :
    arg4.view.read (Elt F) ((arg4.access fullR).write (Elt F) f4 w Finset.univ) = w := by
  funext x
  have e : (arg4.access fullR).emb x = arg4.view.emb x := by
    refine congrArg arg4.view.emb (funext fun a => Fin.ext ?_)
    fin_cases a
    · show 0 + 1 * (x 0).val = (x 0).val; omega
    · show 0 + 1 * (x 1).val = (x 1).val; omega
  rw [View.read_apply, ← e, View.write_emb_of_mem _ _ (Finset.mem_univ x), cast_cast, cast_eq]

/-- The staged blocks at some contents. -/
abbrev sumP : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3))
/-- The sums' staging buffer at `f`. -/
abbrev accP (f : Buf (Elt F) (arg4.view.loc (c : Thread nD τ))) : sProp 𝕄 := arg4.view.loc (c : Thread nD τ) ↦[arg4.view.set]{fullShare} f

/-- What an access touches is a part of its buffer. -/
theorem access_sub (m : Memref sig .tc .vmem S1024x1 .f32) (r : Rect S1024x1) : (m.access r).setOn Finset.univ ⊆ m.view.set := by
  rw [View.setOn_univ]
  show (m.view.slice r).set ⊆ m.view.set
  rw [View.set_slice]
  exact Finset.map_subset_map.2 (Finset.subset_univ _)

/-- Step 0: its own row sums are stored. -/
theorem first_run (t : Fin grid0.N) (h : t.val = 0) (Q : PUnit → sProp 𝕄) :
    iprop(sumP c arg1 arg2 arg3 f1 f2 f3 ∗ accP c arg4 f4)
      ⊢ iprop((iprop(sumP c arg1 arg2 arg3 f1 f2 f3 ∗ ∃ f, ⌜arg4.view.read (Elt F) f
              = k0_pay1 (arg1.view.read (Elt F) f1) (arg2.view.read (Elt F) f2) (arg3.view.read (Elt F) f3)⌝ ∗ accP c arg4 f) -∗ Q ⟨⟩)
          -∗ runs c (cc0__sum_body (F := F) (grid0.coords t) arg1 harg1 arg2 harg2 arg3 harg3 arg4 harg4) Q) := by
  have h1 : k0_cond1 (grid0.coords t) = 1#1 := (first_iff t).2 h
  have h2 : ¬ k0_cond2 (grid0.coords t) = 1#1 := fun h' => (later_iff t).1 h' h
  rw [cc0__sum_body_eq_skeleton]
  unfold cc0__sum_body_skel
  simp only [dif_pos h1, dif_neg h2]
  iintro ⟨⟨H1, H2, H3⟩, H4⟩ Hk
  iapply (wp_load 𝒱₀ (c : Thread nD τ) none Set.univ (S := arg1.view.set) (load_sub _ _)) $$ H1
  iintro H1
  iapply (wp_load 𝒱₀ (c : Thread nD τ) none Set.univ (S := arg2.view.set) (load_sub _ _)) $$ H2
  iintro H2
  iapply (wp_load 𝒱₀ (c : Thread nD τ) none Set.univ (S := arg3.view.set) (load_sub _ _)) $$ H3
  iintro H3
  iapply (wp_load 𝒱₀ (c : Thread nD τ) none Set.univ (S := arg4.view.set) (load_sub _ _)) $$ H4
  iintro H4
  iapply (wp_store 𝒱₀ (c : Thread nD τ) none Set.univ (m := arg4) (r := fullR) (S := arg4.view.set) (access_sub _ _)) $$ H4
  iintro H4
  rw [full, full, full]
  iapply (le_wp_ret)
  iapply Hk
  isplitl [H1 H2 H3]
  · isplitl [H1]; · iexact H1
    isplitl [H2] <;> iassumption
  iexists _
  isplitr; · ipureintro; exact read_stored c arg4 f4 _
  iexact H4

/-- A later step: its row sums are added. -/
theorem later_run (t : Fin grid0.N) (h : t.val ≠ 0) (Q : PUnit → sProp 𝕄) :
    iprop(sumP c arg1 arg2 arg3 f1 f2 f3 ∗ accP c arg4 f4)
      ⊢ iprop((iprop(sumP c arg1 arg2 arg3 f1 f2 f3 ∗ ∃ f, ⌜arg4.view.read (Elt F) f
              = k0_pay2 (arg1.view.read (Elt F) f1) (arg2.view.read (Elt F) f2) (arg3.view.read (Elt F) f3) (arg4.view.read (Elt F) f4)⌝ ∗ accP c arg4 f) -∗ Q ⟨⟩)
          -∗ runs c (cc0__sum_body (F := F) (grid0.coords t) arg1 harg1 arg2 harg2 arg3 harg3 arg4 harg4) Q) := by
  have h1 : ¬ k0_cond1 (grid0.coords t) = 1#1 := fun h' => h ((first_iff t).1 h')
  have h2 : k0_cond2 (grid0.coords t) = 1#1 := (later_iff t).2 h
  rw [cc0__sum_body_eq_skeleton]
  unfold cc0__sum_body_skel
  simp only [dif_neg h1, dif_pos h2]
  iintro ⟨⟨H1, H2, H3⟩, H4⟩ Hk
  iapply (wp_load 𝒱₀ (c : Thread nD τ) none Set.univ (S := arg1.view.set) (load_sub _ _)) $$ H1
  iintro H1
  iapply (wp_load 𝒱₀ (c : Thread nD τ) none Set.univ (S := arg2.view.set) (load_sub _ _)) $$ H2
  iintro H2
  iapply (wp_load 𝒱₀ (c : Thread nD τ) none Set.univ (S := arg3.view.set) (load_sub _ _)) $$ H3
  iintro H3
  iapply (wp_load 𝒱₀ (c : Thread nD τ) none Set.univ (S := arg4.view.set) (load_sub _ _)) $$ H4
  iintro H4
  iapply (wp_load 𝒱₀ (c : Thread nD τ) none Set.univ (S := arg4.view.set) (load_sub _ _)) $$ H4
  iintro H4
  iapply (wp_store 𝒱₀ (c : Thread nD τ) none Set.univ (m := arg4) (r := fullR) (S := arg4.view.set) (access_sub _ _)) $$ H4
  iintro H4
  rw [full, full, full, full]
  iapply (le_wp_ret)
  iapply Hk
  isplitl [H1 H2 H3]
  · isplitl [H1]; · iexact H1
    isplitl [H2] <;> iassumption
  iexists _
  isplitr; · ipureintro; exact read_stored c arg4 f4 _
  iexact H4

end Step

/-! ## The proof data -/

/-- What the region keeps: the buffers it does not use. -/
abbrev keep0 : sProp 𝕄 := Pipeline.scopedRest (Ix := Unit) (Name := ℕ) (U := UU) (Lvl := ℕ) (Val := Elt F) spec0 c

/-- What the pipeline's proof is given of the first call: the operands, and the blocks before and after each step. -/
def dat0 : Dat τ (Elt F) Unit ℕ UU ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => accAt V c t.val t.isLt
  Φ _ := keep0 (F := F) c
  q _ := fullShare
  owed _ := 0

/-- Each staged block before a step is its operand's block: the rows, -/
theorem before0_0 (t : Fin cfg0.N) (d) : (dat0 V c).before 0 t d = iblk0 V c 0 t :=
  ((dat0 V c).before_in_eq_fetched 0 rfl (fun _ => rfl) (fun _ _ _ => rfl) (fun _ => rfl) t d).trans rfl
/-- the columns, -/
theorem before0_1 (t : Fin cfg0.N) (d) : (dat0 V c).before 1 t d = iblk0 V c 1 t :=
  ((dat0 V c).before_in_eq_fetched 1 rfl (fun _ => rfl) (fun _ _ _ => rfl) (fun _ => rfl) t d).trans rfl
/-- the shift. -/
theorem before0_2 (t : Fin cfg0.N) (d) : (dat0 V c).before 2 t d = iblk0 V c 2 t :=
  ((dat0 V c).before_in_eq_fetched 2 rfl (fun _ => rfl) (fun _ _ _ => rfl) (fun _ => rfl) t d).trans rfl
/-- A step leaves the operands' blocks as they were: the rows, -/
theorem after0_0 (t : Fin cfg0.N) : (dat0 V c).after 0 t = iblk0 V c 0 t := by dsimp only [dat0]
/-- the columns, -/
theorem after0_1 (t : Fin cfg0.N) : (dat0 V c).after 1 t = iblk0 V c 1 t := by dsimp only [dat0]
/-- the shift; -/
theorem after0_2 (t : Fin cfg0.N) : (dat0 V c).after 2 t = iblk0 V c 2 t := by dsimp only [dat0]
/-- and the sums at what they are after it. -/
theorem after0_3 (t : Fin cfg0.N) : (dat0 V c).after 3 t = accAt V c t.val t.isLt := by dsimp only [dat0]

/-- A later step finds the row sums the step before left. -/
theorem before0_3 (t : Fin cfg0.N) (h : t.val ≠ 0) (d) :
    (dat0 V c).before 3 t d = accAt V c (t.val - 1) (Nat.lt_of_le_of_lt (Nat.sub_le _ _) t.isLt) := by
  have hN : t.val < 25 := lt_of_lt_of_eq t.isLt N_0
  rw [(dat0 V c).before_of_pos 3 t h ((cfg0.win 3).fetch_out rfl t), if_neg]
  · unfold Dat.left
    rw [busy]
    exact after0_3 V c ⟨t.val - 1, Nat.lt_of_le_of_lt (Nat.sub_le _ _) t.isLt⟩
  · intro hf
    have := (flush0_3 _).1 hf
    dsimp only at this
    omega

/-- After the first step the sums are the first block's. -/
theorem acc_zero (t : Fin cfg0.N) (h : t.val = 0) :
    accAt V c t.val t.isLt = k0_pay1 (iblk0 V c 0 t) (iblk0 V c 1 t) (iblk0 V c 2 t) := by
  obtain ⟨n, hn⟩ := t; dsimp only at h; subst h; rfl
/-- After another they are the step's block's, added to what they were. -/
theorem acc_succ (t : Fin cfg0.N) (h : t.val ≠ 0) :
    accAt V c t.val t.isLt = k0_pay2 (iblk0 V c 0 t) (iblk0 V c 1 t) (iblk0 V c 2 t)
      (accAt V c (t.val - 1) (Nat.lt_of_le_of_lt (Nat.sub_le _ _) t.isLt)) := by
  obtain ⟨n, hn⟩ := t
  cases n with
  | zero => exact absurd rfl h
  | succ n => rfl

/-- The table's first body, named. -/
theorem defs_tc0 : (defs₀ (F := F)) .tc cfg0.body
    = fun a => cc0__sum_body (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) := rfl
/-- The pipeline's call of the body is the body at the step's grid point and staging buffers. -/
theorem prog0_eq (t : Fin cfg0.N) : (defs₀ (F := F)) .tc cfg0.body (cfg0.bodyArgs t (cfg0.slots t)) = bodyAt0 (F := F) t :=
  (congrFun defs_tc0 _).trans rfl

/-- A step from what it finds to what it leaves, whichever step. -/
theorem sum_step (t : Fin cfg0.N) (f1 : Buf (Elt F) ((st0_0 t).view.loc (c : Thread nD τ))) (f2 : Buf (Elt F) ((st0_1 t).view.loc (c : Thread nD τ)))
    (f3 : Buf (Elt F) ((st0_2 t).view.loc (c : Thread nD τ))) (f4 : Buf (Elt F) ((st0_3 t).view.loc (c : Thread nD τ)))
    (h1 : (st0_0 t).view.read (Elt F) f1 = iblk0 V c 0 t) (h2 : (st0_1 t).view.read (Elt F) f2 = iblk0 V c 1 t) (h3 : (st0_2 t).view.read (Elt F) f3 = iblk0 V c 2 t)
    (d) (h4 : (st0_3 t).view.read (Elt F) f4 = (dat0 V c).before 3 t d) (Q : PUnit → sProp 𝕄) :
    iprop(sumP c (st0_0 t) (st0_1 t) (st0_2 t) f1 f2 f3 ∗ accP c (st0_3 t) f4)
      ⊢ iprop((iprop(sumP c (st0_0 t) (st0_1 t) (st0_2 t) f1 f2 f3 ∗ ∃ f, ⌜(st0_3 t).view.read (Elt F) f = accAt V c t.val t.isLt⌝ ∗ accP c (st0_3 t) f) -∗ Q ⟨⟩)
          -∗ runs c (bodyAt0 t) Q) := by
  by_cases h : t.val = 0
  · rw [acc_zero V c t h, ← h1, ← h2, ← h3]
    exact first_run c _ _ _ _ _ _ _ _ f1 f2 f3 f4 t h Q
  · rw [acc_succ V c t h, ← before0_3 V c t h d, ← h1, ← h2, ← h3, ← h4]
    exact later_run c _ _ _ _ _ _ _ _ f1 f2 f3 f4 t h Q

set_option backward.isDefEq.respectTransparency.types false in
/-- Every step of the first call takes the blocks before it to the blocks after it. -/
theorem body_obligation0 : BodyObligation (dat0 V c) (defs₀ (F := F)) 𝒱₀ () Set.univ := fun t => by
  rw [bigSep_W0, bigSep_W0]
  dsimp only
  have hb : idle0 3 (grid0.coords t) = false := busy t
  simp only [hb, before0_0, before0_1, before0_2, after0_0, after0_1, after0_2, after0_3]
  rw [show (dat0 V c).Φ t.castSucc = keep0 (F := F) c from rfl, show (dat0 V c).Φ t.succ = keep0 (F := F) c from rfl]
  unfold Dat.owesAt Pipeline.owesWithin
  rw [show (dat0 V c).owed t.castSucc = 0 from rfl, show (dat0 V c).owed t.succ = 0 from rfl]
  unfold owns
  iintro ⟨Hkeep, ⟨%W, -, HW⟩, ⟨%d0, %f0, %h0, H0⟩, ⟨%d1, %f1, %h1, H1⟩, ⟨%d2, %f2, %h2, H2⟩, ⟨%d3, %f3, %h3, H3⟩⟩
  sl_rw [prog0_eq t]
  iapply (sum_step V c t f0 f1 f2 f3 h0 h1 h2 d3 h3) $$ [H0 H1 H2 H3]
  · isplitr [H3]
    · isplitl [H0]; · iexact H0
      isplitl [H1]; · iexact H1
      iexact H2
    iexact H3
  iintro ⟨⟨H0, H1, H2⟩, ⟨%f, %hf, H3⟩⟩
  isplitl [Hkeep]; · iexact Hkeep
  isplitl [HW]
  · iexists W; isplitr; · ipureintro; exact fun _ _ => Or.inl trivial
    iexact HW
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  iexists f; isplitr; · ipureintro; exact hf
  iexact H3

end Cert.Proof.Kernel

end
-- ==== Proof.ProbSteps.lean ====
/-
  The ring of copies, step by step

  Before step `t` of the second grid the blocks `t, t + 1, …` of the result are still to write, the copies of blocks `t - 2` and
  `t - 1` are in flight from the two slots, and earlier blocks are written.  Each step waits for the copies of its slot, stores its
  block there and starts the block's copies; the last step also waits for everything.
-/
module

public import proofs.«01_k».proof.Proof.ProbBody
public import Idealize.ShloMosaic.Lib.Ring.WriteBehind

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk bk_val)

variable {F : FTy → Type} [FloatOps F]
local notation "𝕄" => MT nD τ sig Unit (Elt F) ℕ UU ℕ
variable (c : Dev nD)

/-- A slot with nothing in flight; the copies of block `u` in flight from slot `g`. -/
def freeP (g : Fin 2) : sProp 𝕄 := iprop(cellsP (F := F) c g ∗ ∃ f, bufP c (slotSet g) f)
/-- The copies of block `u` in flight from slot `g`. -/
def inflP (E : Fin 25 → BufB F c) (O : OutB F c) (g : Fin 2) (u : Fin 25) : sProp 𝕄 :=
  bigSep Finset.univ (flightP c g (bk 24 u.val) (E u) O)
/-- Block `u` of the result at contents `f`. -/
def colP (f : OutB F c) (u : Fin 25) : sProp 𝕄 := outP c (colSet u.val) f

/-- The ring before step `p`. -/
def ringP (E : Fin 25 → BufB F c) (A O : OutB F c) (p : ℕ) : sProp 𝕄 :=
  Ring.AtBΦ 2 (freeP (F := F) c) (inflP c E O) (colP c A) (colP c O) p

omit [FloatOps F] in
/-- Slot 0 is what the narrow copies send and the rest. -/
theorem slot_split (f : BufB F c) :
    (bufP c (slotSet 0) f : sProp 𝕄) ⊣⊢ iprop(bufP c (nslotSet 0) f ∗ bufP c (slotSet 0 \ nslotSet 0) f) :=
  pointsTo_split_subset (nslot_sub 0)

section Steps
variable (arg1 : Memref sig .tc .vmem S1024x33 .f32) (arg2 : Memref sig .tc .vmem S33x4096 .f32)
  (arg3 : Memref sig .tc .vmem S1024x1 .f32) (arg4 : Memref sig .tc .vmem S1024x1 .f32)
  (harg1 : arg1.IsWhole) (harg2 : arg2.IsWhole) (harg3 : arg3.IsWhole) (harg4 : arg4.IsWhole)
  (harg5 : outM.IsWhole) (harg6 : bufM.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (E : Fin 25 → BufB F c) (A O : OutB F c)

/-- A step before the last, after its waits: the slot takes the step's block and its copies start. -/
theorem fill_run (t : Fin grid1.N) (h : t.val < 24)
    (hE : slotOf c (k1_pay1 (arg1.view.read (Elt F) f1) (arg2.view.read (Elt F) f2) (arg3.view.read (Elt F) f3) (arg4.view.read (Elt F) f4)) = E (bk 25 t.val))
    (hO : Agree c (sl 2 t.val) t.val 4096 (E (bk 25 t.val)) O) (Q : PUnit → sProp 𝕄) :
    iprop(colP c A (bk 25 t.val) ∗ freeP (F := F) c (sl 2 t.val) ∗ stagedP c arg1 arg2 arg3 arg4 f1 f2 f3 f4 ∗ oweP (F := F) c)
      ⊢ iprop((iprop(inflP c E O (sl 2 t.val) (bk 25 t.val) ∗ stagedP c arg1 arg2 arg3 arg4 f1 f2 f3 f4 ∗ oweP (F := F) c) -∗ Q ⟨⟩)
          -∗ runs c (afterWaits t arg1 arg2 arg3 arg4) Q) := by
  have e25 : (bk 25 t.val).val = t.val := bk_val (by omega)
  have e24 : (bk 24 t.val).val = t.val := bk_val h
  unfold colP freeP inflP afterWaits
  rw [e25, if_pos h]
  iintro ⟨Hc, ⟨Hcells, ⟨%f, Hs⟩⟩, Hst, Ho⟩ Hk
  iapply (store_run c arg1 arg2 arg3 arg4 (sl 2 t.val) f1 f2 f3 f4 f _ Q) $$ [Hst Hs]
  · isplitl [Hst] <;> iassumption
  iintro ⟨Hst, Hs⟩
  rw [hE]
  iapply (starts c (sl 2 t.val) (bk 24 t.val) (E (bk 25 t.val)) A O (by rw [e24]; exact hO) _ Q) $$ [Hc Hcells Hs Ho]
  · isplitr [Ho]
    · isplitl [Hs]; · iexact Hs
      isplitl [Hc]; · rw [e24]; iexact Hc
      iexact Hcells
    iexact Ho
  iintro ⟨Hf, Ho⟩
  iapply (le_wp_ret)
  iapply Hk
  isplitl [Hf]; · iexact Hf
  isplitl [Hst] <;> iassumption

/-- The last step, after its waits: the narrow block is stored and copied, and the copies of both slots are waited. -/
theorem last_run (t : Fin grid1.N) (h : t.val = 24)
    (hE : slotOf c (k1_pay1 (arg1.view.read (Elt F) f1) (arg2.view.read (Elt F) f2) (arg3.view.read (Elt F) f3) (arg4.view.read (Elt F) f4)) = E (bk 25 t.val))
    (hO : Agree c (sl 2 t.val) t.val 1664 (E (bk 25 t.val)) O) (Q : PUnit → sProp 𝕄) :
    iprop((colP c A (bk 25 t.val) ∗ freeP (F := F) c (sl 2 t.val) ∗ inflP c E O (sl 2 (t.val + 1)) (bk 25 (t.val - 1)))
          ∗ stagedP c arg1 arg2 arg3 arg4 f1 f2 f3 f4 ∗ oweP (F := F) c)
      ⊢ iprop((iprop((colP c O (bk 25 t.val) ∗ colP c O (bk 25 (t.val - 1)) ∗ freeP (F := F) c (sl 2 t.val) ∗ freeP (F := F) c (sl 2 (t.val + 1)))
            ∗ stagedP c arg1 arg2 arg3 arg4 f1 f2 f3 f4 ∗ oweP (F := F) c) -∗ Q ⟨⟩)
          -∗ runs c (afterWaits t arg1 arg2 arg3 arg4) Q) := by
  have s0 : sl 2 t.val = 0 := by rw [h]; decide
  have s1 : sl 2 (t.val + 1) = 1 := by rw [h]; decide
  have e25 : (bk 25 t.val).val = 24 := (bk_val (by omega)).trans h
  have e25' : (bk 25 (t.val - 1)).val = 23 := (bk_val (by omega)).trans (by omega)
  have e24 : (bk 24 (bk 25 (t.val - 1)).val) = 23 := by rw [e25']; decide
  have n24 : ¬ t.val < 24 := by omega
  unfold colP freeP inflP afterWaits
  rw [e24, e25, e25', if_neg n24, storeBlock_of (g := 0) (show slotOff (sl 2 t.val) = slotOff 0 from congrArg slotOff s0), s0, s1]
  generalize E (bk 25 t.val) = E0 at hE hO
  rw [s0, h] at hO
  iintro ⟨⟨Hc, ⟨Hcells, ⟨%f, Hs⟩⟩, Hfl⟩, Hst, Ho⟩ Hk
  iapply (store_run c arg1 arg2 arg3 arg4 0 f1 f2 f3 f4 f _ Q) $$ [Hst Hs]
  · isplitl [Hst] <;> iassumption
  iintro ⟨Hst, Hs⟩
  rw [hE]
  ihave Hs' := (slot_split c E0).1 $$ Hs
  icases Hs' with ⟨Hs, Hrest⟩
  iapply (nstarts c 0 E0 A O hO _ Q) $$ [Hc Hcells Hs Ho]
  · isplitr [Ho]
    · isplitl [Hs]; · iexact Hs
      isplitl [Hc] <;> iassumption
    iexact Ho
  iintro ⟨Hf, Ho⟩
  iapply (awaits c 1 23 _ O _ Q) $$ [Hfl Ho]
  · isplitl [Hfl] <;> iassumption
  iintro ⟨⟨Hcells1, Hc1, Hs1⟩, Ho⟩
  iapply (nawaits c 0 E0 O _ Q) $$ [Hf Ho]
  · isplitl [Hf] <;> iassumption
  iintro ⟨⟨Hcells, Hc, Hs⟩, Ho⟩
  ihave Hs := (slot_split c E0).2 $$ [Hs Hrest]
  · isplitl [Hs] <;> iassumption
  iapply (le_wp_ret)
  iapply Hk
  isplitr [Hst Ho]
  · isplitl [Hc]; · iexact Hc
    isplitl [Hc1]; · iexact Hc1
    isplitl [Hcells Hs]
    · isplitl [Hcells]; · iexact Hcells
      iexists _; iexact Hs
    · isplitl [Hcells1]; · iexact Hcells1
      iexists _; iexact Hs1
  isplitl [Hst] <;> iassumption

/-- A step's waits: the block two steps before is written, and its slot is free. -/
theorem waits_run (t : ℕ) (h2 : 2 ≤ t) (h : t < 25) (κ : P1 F) (Q : PUnit → sProp 𝕄) :
    iprop(inflP c E O (sl 2 t) (bk 25 (t - 2)) ∗ oweP (F := F) c)
      ⊢ iprop((iprop((colP c O (bk 25 (t - 2)) ∗ freeP (F := F) c (sl 2 t)) ∗ oweP (F := F) c) -∗ runs c κ Q)
          -∗ runs c (each8 (await (sl 2 t) (bk 24 (t - 2))) κ) Q) := by
  have e25 : (bk 25 (t - 2)).val = t - 2 := bk_val (by omega)
  have e24 : (bk 24 (t - 2)).val = t - 2 := bk_val (by omega)
  unfold colP freeP inflP
  rw [e25]
  iintro ⟨Hf, Ho⟩ Hk
  iapply (awaits c (sl 2 t) (bk 24 (t - 2)) _ O κ Q) $$ [Hf Ho]
  · isplitl [Hf] <;> iassumption
  iintro ⟨⟨Hcells, Hc, Hs⟩, Ho⟩
  iapply Hk
  isplitr [Ho]
  · isplitl [Hc]; · rw [e24]; iexact Hc
    isplitl [Hcells]; · iexact Hcells
    iexists _; iexact Hs
  iexact Ho

/-- **One step of the ring.**  The body at step `t`, from the ring before it to the ring after it; the blocks it computes from
    are only read. -/
theorem ring_step (t : Fin grid1.N)
    (hE : slotOf c (k1_pay1 (arg1.view.read (Elt F) f1) (arg2.view.read (Elt F) f2) (arg3.view.read (Elt F) f3) (arg4.view.read (Elt F) f4)) = E (bk 25 t.val))
    (hO : ∀ g, Agree c g t.val (if t.val < 24 then 4096 else 1664) (E (bk 25 t.val)) O) (Q : PUnit → sProp 𝕄) :
    iprop(ringP c E A O t.val ∗ stagedP c arg1 arg2 arg3 arg4 f1 f2 f3 f4 ∗ oweP (F := F) c)
      ⊢ iprop((iprop(ringP c E A O (t.val + 1) ∗ stagedP c arg1 arg2 arg3 arg4 f1 f2 f3 f4 ∗ oweP (F := F) c) -∗ Q ⟨⟩)
          -∗ runs c (cc1__prob_body (F := F) (grid1.coords t) arg1 harg1 arg2 harg2 arg3 harg3 arg4 harg4 outM harg5 bufM harg6 cc1_scratch1) Q) := by
  have hN : t.val < 25 := t.isLt
  unfold ringP
  by_cases h2 : 2 ≤ t.val
  · rw [body_late t h2]
    by_cases h24 : t.val < 24
    · have hO' := hO (sl 2 t.val); rw [if_pos h24] at hO'
      rw [Ring.AtBΦ_lt _ _ _ _ _ t.val hN, Ring.AtB22_here _ _ _ _ t.val h2 hN, Ring.AtBΦ_lt _ _ _ _ _ (t.val + 1) (by omega),
        Ring.AtB22_next _ _ _ _ t.val h2 hN]
      iintro ⟨⟨⟨Ha, HA⟩, HB, Hw, Hc⟩, Hst, Ho⟩ Hk
      iapply (waits_run c E O t.val h2 hN _ Q) $$ [Hw Ho]
      · isplitl [Hw] <;> iassumption
      iintro ⟨⟨Hl, Hfree⟩, Ho⟩
      iapply (fill_run c arg1 arg2 arg3 arg4 f1 f2 f3 f4 E A O t h24 hE hO' Q) $$ [Ha Hfree Hst Ho]
      · isplitl [Ha]; · iexact Ha
        isplitl [Hfree]; · iexact Hfree
        isplitl [Hst] <;> iassumption
      iintro ⟨Hn, Hst, Ho⟩
      iapply Hk
      isplitr [Hst Ho]
      · isplitl [HA]; · iexact HA
        isplitl [Hl HB]; · isplitl [Hl] <;> iassumption
        isplitl [Hc] <;> iassumption
      isplitl [Hst] <;> iassumption
    · have h : t.val = 24 := by omega
      have hO' := hO (sl 2 t.val); rw [if_neg h24] at hO'
      rw [Ring.AtBΦ_lt _ _ _ _ _ t.val hN, Ring.AtB22_here_last _ _ _ _ t.val h2 (by omega), Ring.AtBΦ_end _ _ _ _ _ (t.val + 1) (by omega),
        Ring.AtB22_drained _ _ t.val h2 (by omega)]
      iintro ⟨⟨Ha, HB, Hw, Hc⟩, Hst, Ho⟩ Hk
      iapply (waits_run c E O t.val h2 hN _ Q) $$ [Hw Ho]
      · isplitl [Hw] <;> iassumption
      iintro ⟨⟨Hl, Hfree⟩, Ho⟩
      iapply (last_run c arg1 arg2 arg3 arg4 f1 f2 f3 f4 E A O t h hE hO' Q) $$ [Ha Hfree Hc Hst Ho]
      · isplitr [Hst Ho]
        · isplitl [Ha]; · iexact Ha
          isplitl [Hfree] <;> iassumption
        isplitl [Hst] <;> iassumption
      iintro ⟨⟨H0, H1, Hf, Hf'⟩, Hst, Ho⟩
      iapply Hk
      isplitr [Hst Ho]
      · isplitr [Hf Hf']
        · isplitl [H0]; · iexact H0
          isplitl [Hl]; · iexact Hl
          isplitl [H1] <;> iassumption
        isplitl [Hf] <;> iassumption
      isplitl [Hst] <;> iassumption
  · have hO' := hO (sl 2 t.val); rw [if_pos (by omega)] at hO'
    rw [body_early t (by omega)]
    by_cases h0 : t.val = 0
    · rw [Ring.AtBΦ_lt _ _ _ _ _ t.val hN, Ring.AtB2_zero' 2 _ _ _ _ t.val h0, Ring.AtBΦ_lt _ _ _ _ _ (t.val + 1) (by omega),
        Ring.AtB22_next_zero' _ _ _ _ t.val h0]
      iintro ⟨⟨⟨Ha, HA⟩, Hf0, Hf1⟩, Hst, Ho⟩ Hk
      iapply (fill_run c arg1 arg2 arg3 arg4 f1 f2 f3 f4 E A O t (by omega) hE hO' Q) $$ [Ha Hf0 Hst Ho]
      · isplitl [Ha]; · iexact Ha
        isplitl [Hf0]; · iexact Hf0
        isplitl [Hst] <;> iassumption
      iintro ⟨Hn, Hst, Ho⟩
      iapply Hk
      isplitr [Hst Ho]
      · isplitl [HA]; · iexact HA
        isplitl [Hf1] <;> iassumption
      isplitl [Hst] <;> iassumption
    · have h1 : t.val = 1 := by omega
      rw [Ring.AtBΦ_lt _ _ _ _ _ t.val hN, Ring.AtB22_one' _ _ _ _ t.val h1 (by omega), Ring.AtBΦ_lt _ _ _ _ _ (t.val + 1) (by omega),
        Ring.AtB22_next_one' _ _ _ _ t.val h1]
      iintro ⟨⟨⟨Ha, HA⟩, Hf, Hc⟩, Hst, Ho⟩ Hk
      iapply (fill_run c arg1 arg2 arg3 arg4 f1 f2 f3 f4 E A O t (by omega) hE hO' Q) $$ [Ha Hf Hst Ho]
      · isplitl [Ha]; · iexact Ha
        isplitl [Hf]; · iexact Hf
        isplitl [Hst] <;> iassumption
      iintro ⟨Hn, Hst, Ho⟩
      iapply Hk
      isplitr [Hst Ho]
      · isplitl [HA]; · iexact HA
        isplitl [Hc] <;> iassumption
      isplitl [Hst] <;> iassumption

end Steps

end Cert.Proof.Kernel

end
-- ==== Proof.ProbRegion.lean ====
/-
  The second region: what its grid finds and leaves.  From the arrays at the region's entry, step `u` computes block `u` of the
  probabilities (`payAt`); the result's array ends holding every block (`probOf`).
-/
module

public import proofs.«01_k».proof.Proof.ProbSteps
public import proofs.«01_k».proof.Proof.Gen.Kernel.Launch
public import proofs.«01_k».proof.Proof.Gen.Kernel.Points
public import Idealize.ShloMosaic.Lib.Pipeline.FrameBody

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.Ring (sl bk bk_val)

variable {F : FTy → Type} [FloatOps F]
local notation "𝕄" => MT nD τ sig Unit (Elt F) ℕ UU ℕ

variable (V : Dev nD → Valuation τ sig (Elt F)) (c : Dev nD)

/-! ## The values -/

/-- The block window `w` of the region shows at step `t`. -/
def iblk1 (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The block step `t` computes. -/
def payAt (t : Fin cfg1.N) : FVec F S1x1024x4096 .f32 := k1_pay1 (iblk1 V c 0 t) (iblk1 V c 1 t) (iblk1 V c 2 t) (iblk1 V c 3 t)

/-- The step that writes column `n` of the result. -/
def stepOf (n : ℕ) (h : n < 99968) : Fin cfg1.N := ⟨n / 4096, lt_of_lt_of_eq (show n / 4096 < 25 by omega) N_1.symm⟩

/-- The result's array after the region: its first 99968 columns are the blocks, the rest is as the region found it. -/
def probOf : OutB F c := fun y =>
  if h : (y 1).val < 99968 then payAt V c (stepOf (y 1).val h) (ix3 0 (y 0) (⟨(y 1).val % 4096, Nat.mod_lt _ (by decide)⟩ : Fin 4096))
  else V c (Proc.devRef .tc main_v23) y

/-- A slot's contents once step `u` has stored into it. -/
def slotAt (u : Fin 25) : BufB F c := slotOf c (payAt V c ⟨u.val, lt_of_lt_of_eq u.isLt N_1.symm⟩)

/-- The slot's contents at a step's own number. -/
theorem slotAt_step (t : Fin cfg1.N) : (slotAt V c (bk 25 t.val) : BufB F c) = slotOf c (payAt V c t) := by
  unfold slotAt
  have e : (bk 25 t.val).val = t.val := bk_val (lt_of_lt_of_eq t.isLt N_1)
  exact congrArg (fun t => slotOf c (payAt V c t)) (Fin.ext e)

/-- What a step copies out of its slot is the result's block. -/
theorem agree (t : Fin cfg1.N) (g : Fin 2) :
    Agree c g t.val (if t.val < 24 then 4096 else 1664) (slotAt V c (bk 25 t.val)) (probOf V c) := by
  intro x y _ h1 hx hw
  rw [slotAt_step]
  have hN : t.val < 25 := lt_of_lt_of_eq t.isLt N_1
  have hy : (y 2).val < 4096 := (y 2).isLt
  have hlt : (x 1).val < 99968 := by split at hw <;> omega
  unfold probOf slotOf
  rw [dif_pos hlt]
  have e : stepOf (x 1).val hlt = t := Fin.ext (show (x 1).val / 4096 = t.val by omega)
  rw [e]
  refine congrArg (payAt V c t) ?_
  funext a; fin_cases a
  · rfl
  · exact Fin.ext h1.symm
  · exact Fin.ext (show (x 1).val % 4096 = (y 2).val by omega)

/-! ## The buffers in parts -/

/-- The columns no step writes. -/
def spareSet : Finset S1024x100000.Idx := Finset.univ \ Finset.univ.biUnion fun u : Fin 25 => colSet u.val

/-- No two blocks share a column. -/
theorem col_disjoint : ∀ u ∈ (Finset.univ : Finset (Fin 25)), ∀ u' ∈ (Finset.univ : Finset (Fin 25)), u ≠ u' → Disjoint (colSet u.val) (colSet u'.val) := by
  intro u _ u' _ hne
  rw [Finset.disjoint_left]; intro y hy hy'
  have a := mem_colSet.1 hy; have b := mem_colSet.1 hy'
  exact hne (Fin.ext (by omega))

/-- The result whole is its blocks and the columns no step writes. -/
theorem out_parts (f : OutB F c) : (outP c Finset.univ f : sProp 𝕄) ⊣⊢ iprop(bigSep Finset.univ (colP c f) ∗ outP c spareSet f) := by
  unfold colP
  rw [← pointsTo_biUnion _ _ col_disjoint]
  exact pointsTo_split_subset (Finset.subset_univ _)

/-- The columns no step writes are at the end as at the start. -/
theorem spare_eq : (outP c spareSet (V c (Proc.devRef .tc main_v23)) : sProp 𝕄) = outP c spareSet (probOf V c) := by
  refine pointsTo_congr fun y hy => ?_
  unfold probOf
  rw [dif_neg]
  intro h
  refine (Finset.mem_sdiff.1 hy).2 (Finset.mem_biUnion.2 ⟨⟨(y 1).val / 4096, by omega⟩, Finset.mem_univ _, mem_colSet.2 ?_⟩)
  dsimp only; omega

/-- The two slots share nothing. -/
theorem slots_disjoint : Disjoint (slotSet 0) (slotSet 1) := by
  rw [Finset.disjoint_left]; intro y hy hy'
  have a := mem_slotSet.1 hy; have b := mem_slotSet.1 hy'
  rw [a] at b; exact absurd b (by decide)
/-- The two slots are the scratch. -/
theorem slots_univ : slotSet 0 ∪ slotSet 1 = Finset.univ := by
  ext y
  have h0 : (y 0).val < 2 := (y 0).isLt
  rw [Finset.mem_union, mem_slotSet, mem_slotSet]
  simp only [Finset.mem_univ, iff_true]
  show (y 0).val = 0 ∨ (y 0).val = 1
  omega

omit [FloatOps F] in
/-- The scratch can be held as its two slots. -/
theorem slots_split (f : BufB F c) : (bufP c Finset.univ f : sProp 𝕄) ⊢ iprop(bufP c (slotSet 0) f ∗ bufP c (slotSet 1) f) := by
  rw [← slots_univ]; exact (pointsTo_union slots_disjoint).1
omit [FloatOps F] in
/-- The two slots, at any contents, make the scratch again. -/
theorem slots_join (f g : BufB F c) : (iprop(bufP c (slotSet 0) f ∗ bufP c (slotSet 1) g) : sProp 𝕄) ⊢ iprop(∃ h, bufP c Finset.univ h) := by
  have := pointsTo_join (nD := nD) (τ := τ) (sig := sig) (Ix := Unit) (Val := Elt F) (Name := ℕ) (U := UU) (Lvl := ℕ) (ℓ := (c : Thread nD τ).loc cc1_scratch0) (q := fullShare) (f := f) (g := g) slots_disjoint
  rw [slots_univ] at this
  iintro H
  iexists _
  iapply this $$ H

/-! ## The counters -/

/-- The region's own counters: eight per slot. -/
abbrev osem1 : Fin 2 × Fin 8 → SemLoc sig := fun p => .dma (cell p.1 p.2).sem
/-- The body's own semaphores are none of the pipeline's. -/
theorem ownSemFacts1 : Pipeline.OwnSemFacts spec1 osem1 := by decide
/-- The body's own semaphores at zero are the two slots' counters at zero. -/
theorem ownSems1_eq : (Pipeline.ownSems0 osem1 c : sProp 𝕄) = bigSep Finset.univ (cellsP (F := F) c) := by
  unfold Pipeline.ownSems0; rw [bigSep_univ_prod]

/-! ## The proof data -/

/-- The first region's staging buffers, at something. -/
def stagings : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f))

/-- What the region keeps before step `p`. -/
def keep1 (p : ℕ) : sProp 𝕄 :=
  iprop(stagings (F := F) c ∗ (∃ r, prngReg c r) ∗ outP c spareSet (probOf V c)
    ∗ ringP c (slotAt V c) (V c (Proc.devRef .tc main_v23)) (probOf V c) p)

/-- What the pipeline's proof is given of the second call: the operands, the blocks before and after each step, and the invariant between steps. -/
def dat1 : Dat τ (Elt F) Unit ℕ UU ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
  Φ p := keep1 V c p.val
  q _ := fullShare
  owed _ := 0

/-- Each staged block before a step is its operand's block: the rows, -/
theorem before1_0 (t : Fin cfg1.N) (d) : (dat1 V c).before 0 t d = iblk1 V c 0 t :=
  ((dat1 V c).before_in_eq_fetched 0 rfl (fun _ => rfl) (fun _ _ _ => rfl) (fun _ => rfl) t d).trans rfl
/-- the columns, -/
theorem before1_1 (t : Fin cfg1.N) (d) : (dat1 V c).before 1 t d = iblk1 V c 1 t :=
  ((dat1 V c).before_in_eq_fetched 1 rfl (fun _ => rfl) (fun _ _ _ => rfl) (fun _ => rfl) t d).trans rfl
/-- the shift, -/
theorem before1_2 (t : Fin cfg1.N) (d) : (dat1 V c).before 2 t d = iblk1 V c 2 t :=
  ((dat1 V c).before_in_eq_fetched 2 rfl (fun _ => rfl) (fun _ _ _ => rfl) (fun _ => rfl) t d).trans rfl
/-- the reciprocals. -/
theorem before1_3 (t : Fin cfg1.N) (d) : (dat1 V c).before 3 t d = iblk1 V c 3 t :=
  ((dat1 V c).before_in_eq_fetched 3 rfl (fun _ => rfl) (fun _ _ _ => rfl) (fun _ => rfl) t d).trans rfl
/-- A step leaves the four blocks as they were: the rows, -/
theorem after1_0 (t : Fin cfg1.N) : (dat1 V c).after 0 t = iblk1 V c 0 t := by dsimp only [dat1]
/-- the columns, -/
theorem after1_1 (t : Fin cfg1.N) : (dat1 V c).after 1 t = iblk1 V c 1 t := by dsimp only [dat1]
/-- the shift, -/
theorem after1_2 (t : Fin cfg1.N) : (dat1 V c).after 2 t = iblk1 V c 2 t := by dsimp only [dat1]
/-- the reciprocals. -/
theorem after1_3 (t : Fin cfg1.N) : (dat1 V c).after 3 t = iblk1 V c 3 t := by dsimp only [dat1]

/-! ## The body obligation -/

/-- The table's second body, named. -/
theorem defs_tc1 : (defs₀ (F := F)) .tc cfg1.body
    = fun a => cc1__prob_body (grid1.coords a.1) (win1_0.stage (a.2 0)) (hstage1_0 ((a.2 0).cast nbuf1_0)) (win1_1.stage (a.2 1)) (hstage1_1 ((a.2 1).cast nbuf1_1))
        (win1_2.stage (a.2 2)) (hstage1_2 ((a.2 2).cast nbuf1_2)) (win1_3.stage (a.2 3)) (hstage1_3 ((a.2 3).cast nbuf1_3))
        outM (Memref.isWhole_whole _) bufM (Memref.isWhole_whole _) cc1_scratch1 := rfl
/-- The pipeline's call of the body is the body at the step's grid point and staging buffers. -/
theorem prog1_eq (t : Fin cfg1.N) : (defs₀ (F := F)) .tc cfg1.body (cfg1.bodyArgs t (cfg1.slots t)) = bodyAt1 (F := F) t :=
  (congrFun defs_tc1 _).trans rfl

set_option backward.isDefEq.respectTransparency.types false in
/-- Every step of the second call keeps the invariant. -/
theorem body_obligation1 : BodyObligation (dat1 V c) (defs₀ (F := F)) 𝒱₀ () Set.univ := fun t => by
  rw [bigSep_W1, bigSep_W1]
  dsimp only
  simp only [before1_0, before1_1, before1_2, before1_3, after1_0, after1_1, after1_2, after1_3]
  rw [show (dat1 V c).Φ t.castSucc = keep1 V c t.val from rfl, show (dat1 V c).Φ t.succ = keep1 V c (t.val + 1) from rfl]
  unfold Dat.owesAt Pipeline.owesWithin
  rw [show (dat1 V c).owed t.castSucc = 0 from rfl, show (dat1 V c).owed t.succ = 0 from rfl]
  unfold owns keep1
  iintro ⟨⟨Hstg, Hprng, Hspare, Hring⟩, ⟨%W, -, HW⟩, ⟨%d0, %f0, %h0, H0⟩, ⟨%d1, %f1, %h1, H1⟩, ⟨%d2, %f2, %h2, H2⟩, ⟨%d3, %f3, %h3, H3⟩⟩
  sl_rw [prog1_eq t]
  iapply (ring_step c (st1_0 t) (st1_1 t) (st1_2 t) (st1_3 t) _ _ _ _ _ _ f0 f1 f2 f3 (slotAt V c) (V c (Proc.devRef .tc main_v23)) (probOf V c) t
    (by rw [h0, h1, h2, h3]; exact (slotAt_step V c t).symm) (agree V c t)) $$ [Hring H0 H1 H2 H3 HW]
  · isplitl [Hring]; · iexact Hring
    isplitr [HW]
    · isplitl [H0]; · iexact H0
      isplitl [H1]; · iexact H1
      isplitl [H2]; · iexact H2
      iexact H3
    iexists W; iexact HW
  iintro ⟨Hring, ⟨H0, H1, H2, H3⟩, ⟨%W', HW⟩⟩
  isplitl [Hstg Hprng Hspare Hring]
  · isplitl [Hstg]; · iexact Hstg
    isplitl [Hprng]; · iexact Hprng
    isplitl [Hspare]; · iexact Hspare
    iexact Hring
  isplitl [HW]
  · iexists W'; isplitr; · ipureintro; exact fun _ _ => Or.inl trivial
    iexact HW
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  iexists f3; isplitr; · ipureintro; exact h3
  iexact H3

/-! ## Into the region and out of it -/

/-- Both slots' assertions, one after the other. -/
theorem bigSep_slots (P : Fin 2 → sProp 𝕄) : bigSep Finset.univ P = iprop(P 0 ∗ P 1) :=
  bigSep_univ_eq_bigSepL [(0 : Fin 2), 1] (by decide) (by decide) P

/-- Before the first step: every block to write, both slots free. -/
theorem enter1 :
    iprop(Pipeline.scopedRest spec1 c ∗ (∃ r, prngReg c r) ∗ Pipeline.ownSems0 osem1 c
        ∗ (((c : Thread nD τ).loc main_v23) ↦{fullShare} V c (Proc.devRef .tc main_v23))) ⊢ (keep1 V c 0 : sProp 𝕄) := by
  rw [scopedRest1_eq, ownSems1_eq, bigSep_slots]
  unfold keep1 stagings ringP
  rw [Ring.AtBΦ_lt _ _ _ _ _ 0 (by decide), Ring.AtB_zero]
  unfold Ring.AtB₀
  rw [bigSep_slots]
  unfold freeP
  iintro ⟨⟨H0, H1, H2, H3, H4, ⟨%f, Hb⟩⟩, Hp, ⟨Hc0, Hc1⟩, Ho⟩
  ihave Hb := (slots_split c f) $$ Hb
  icases Hb with ⟨Hb0, Hb1⟩
  ihave Ho := (out_parts c _).1 $$ Ho
  icases Ho with ⟨Ho, Hs⟩
  isplitl [H0 H1 H2 H3 H4]
  · isplitl [H0]; · iexact H0
    isplitl [H1]; · iexact H1
    isplitl [H2]; · iexact H2
    isplitl [H3] <;> iassumption
  isplitl [Hp]; · iexact Hp
  isplitl [Hs]; · rw [← spare_eq]; iexact Hs
  isplitl [Ho]; · iexact Ho
  isplitl [Hc0 Hb0]
  · isplitl [Hc0]; · iexact Hc0
    iexists _; iexact Hb0
  isplitl [Hc1]; · iexact Hc1
  iexists _; iexact Hb1

/-- After the last: every block written, both slots free. -/
theorem leave1 :
    (keep1 V c 25 : sProp 𝕄) ⊢ iprop(Pipeline.scopedRest spec1 c ∗ (∃ r, prngReg c r) ∗ Pipeline.ownSems0 osem1 c
        ∗ (((c : Thread nD τ).loc main_v23) ↦{fullShare} probOf V c)) := by
  rw [scopedRest1_eq, ownSems1_eq, bigSep_slots]
  unfold keep1 stagings ringP
  rw [Ring.AtBΦ_end _ _ _ _ _ 25 rfl]
  unfold Ring.AtBEnd
  rw [bigSep_slots]
  unfold freeP
  iintro ⟨⟨H0, H1, H2, H3, H4⟩, Hp, Hs, Ho, ⟨Hc0, ⟨%f, Hb0⟩⟩, ⟨Hc1, ⟨%g, Hb1⟩⟩⟩
  ihave Hb := (slots_join c f g) $$ [Hb0 Hb1]
  · isplitl [Hb0] <;> iassumption
  ihave Ho := (out_parts c _).2 $$ [Ho Hs]
  · isplitl [Ho] <;> iassumption
  isplitl [H0 H1 H2 H3 H4 Hb]
  · isplitl [H0]; · iexact H0
    isplitl [H1]; · iexact H1
    isplitl [H2]; · iexact H2
    isplitl [H3]; · iexact H3
    isplitl [H4]; · iexact H4
    iexact Hb
  isplitl [Hp]; · iexact Hp
  isplitl [Hc0 Hc1]; · isplitl [Hc0] <;> iassumption
  iexact Ho

end Cert.Proof.Kernel

end
-- ==== Proof.Run.lean ====
/-
  The whole program: its host sequences and its two regions, run one after another from any memory, at any float values.
  Every execution ends, with the arguments as launched, every counter at zero, and the result at the last valuation.
-/
module

public import proofs.«01_k».proof.Proof.SumRegion
public import proofs.«01_k».proof.Proof.ProbRegion
public import proofs.«01_k».proof.Proof.Gen.Kernel.Regions
public import Idealize.ShloMosaic.Lib.Pipeline.RegionArraysS
public import Idealize.ShloMosaic.Lib.Pipeline.RegionArraysD

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.Ring (sl bk bk_val)

variable {F : FTy → Type} [FloatOps F]
local notation "𝕄" => MT nD τ sig Unit (Elt F) ℕ UU ℕ

open Idealize.ShloMosaic.Pipeline (Seg HostSeg RegionSeg)

variable (m : (ℓ : Loc nD τ sig) → Buf (Elt F) ℓ) (ρ : Dev nD → PrngReg)

/-! ## What the regions leave -/

/-- What the core holds before the first region. -/
abbrev inV (c : Dev nD) : Valuation τ sig (Elt F) := V5 m c
/-- The row sums the first region leaves. -/
def sumV (c : Dev nD) : (Proc.devRef .tc main_v20 : DevRef τ sig).ty.Contents (Elt F) := (dat0 (inV m) c).arrAt 3 cfg0.N
/-- What the core holds before the second region. -/
def midV (c : Dev nD) : Valuation τ sig (Elt F) :=
  StableHlo.after hostOps1 (Function.update (V5 m c) main_v20 (sumV m c))
/-- The probabilities the second region leaves. -/
def probV (c : Dev nD) : (Proc.devRef .tc main_v23 : DevRef τ sig).ty.Contents (Elt F) := probOf (midV m) c
/-- The two results, by buffer. -/
def outsOf : Outs (F := F) := fun _ r c =>
  Function.update (Function.update (V0 m c) main_v20 (sumV m c)) main_v23 (probV m c) (Proc.devRef .tc r)

/-- The first call's result is the row sums. -/
theorem outs_sum (c : Dev nD) : outsOf m 6 main_v20 c = sumV m c := by
  unfold outsOf
  rw [Function.update_of_ne (by decide), Function.update_self]
/-- The second call's is the probabilities. -/
theorem outs_prob (c : Dev nD) : outsOf m 8 main_v23 c = probV m c := by
  unfold outsOf
  rw [Function.update_self]
/-- After the first call only its result has changed. -/
theorem V6_eq (c : Dev nD) : V6 m (outsOf m) c = Function.update (V5 m c) main_v20 (sumV m c) := by
  show Function.update (V5 m c) main_v20 (outsOf m 6 main_v20 c) = _
  rw [outs_sum]
/-- What the second call is given. -/
theorem V7_eq (c : Dev nD) : V7 m (outsOf m) c = midV m c := by
  show StableHlo.after hostOps1 (V6 m (outsOf m) c) = _
  rw [V6_eq]; rfl
/-- After the second call only its result has changed. -/
theorem V8_eq (c : Dev nD) : V8 m (outsOf m) c = Function.update (midV m c) main_v23 (probV m c) := by
  show Function.update (V7 m (outsOf m) c) main_v23 (outsOf m 8 main_v23 c) = _
  rw [outs_prob, V7_eq]

/-! ## The regions' records -/

/-- The proof data of the two regions. -/
def pdats : (p : Fin 2) → (c : Dev nD) → Dat τ (Elt F) Unit ℕ UU ℕ (cfgs p) c := fun
  | ⟨0, _⟩ => dat0 (inV m)
  | ⟨1, _⟩ => dat1 (midV m)

/-- One index at every counter of a TensorCore. -/
def lvls : GSem nD τ sig → Finset Unit := fun g => if g.1.2 = .tc then {()} else ∅
/-- The other processors' counters have none. -/
theorem lvls_off (g : GSem nD τ sig) (h : g.1.2 ≠ .tc) : lvls g = ∅ := if_neg h

/-- Nothing is owed, so any one level cuts. -/
theorem cut (p : Fin 2) : Pipeline.LevelCut (pcfgs (F := F)) adm () lvls (fun _ _ => 0) p (fun _ => 0) (fun _ => 0) where
  hι c w s := by
    show () ∈ lvls _
    unfold lvls
    rw [if_pos rfl]
    exact Finset.mem_singleton_self _
  hιb c w s := le_refl _
  hD c g i h := absurd h (lt_irrefl _)

/-- What a core keeps beside its buffers, between the items of the program. -/
def coreP (_ : Fin 3) (c : Dev nD) : sProp 𝕄 :=
  iprop((∃ Wd, owes (c : Thread nD τ) (0 : CellTallies nD τ sig Unit) Wd) ∗ ∃ r, prngReg c r)

/-- The first call as an item of the program. -/
def reg0 : RegionSeg (pcfgs (F := F)) adm (pdats m) () (defs₀ (F := F)) 𝒱₀ lvls (fun _ _ => 0) 0 :=
  RegionSeg.ofHeldIn (pcfgs (F := F)) adm (pdats m) () (defs₀ (F := F)) 𝒱₀ lvls (fun _ _ => 0) 0 (fun _ => 0) (Pipeline.ucRefs τ sig)
    (fun _ => iprop(emp)) (fun _ => iprop(emp)) launch0.toP rfl
    (fun c => (body_obligation0 (inV m) c).loose) (fun _ _ => rfl) (fun _ => rfl)
    (fun c => (dat0 (inV m) c).share_full fun _ => rfl)
    (fun c => by
      show iprop(keep0 (F := F) c ∗ emp) ⊢ keep0 (F := F) c
      iintro ⟨H, -⟩; iexact H)
    (fun c => by
      show keep0 (F := F) c ⊢ iprop(keep0 (F := F) c ∗ emp)
      iintro H
      isplitl [H]; · iexact H
      iempintro)
    (fun _ => 0) (cut 0) (fun c => iprop(∃ r, prngReg c r)) (inV m) (fun _ _ => rfl)

/-- The first call's operands and result are among the buffers a core holds. -/
theorem sub0 : Pipeline.arrRefs (τ := τ) spec0 ⊆ Pipeline.ucRefs τ sig := Pipeline.arrRefs_sub_ucRefs spec0 (by decide)
/-- So are the second call's. -/
theorem sub1 : Pipeline.arrRefs (τ := τ) spec1 ⊆ Pipeline.ucRefs τ sig := Pipeline.arrRefs_sub_ucRefs spec1 (by decide)

/-- Before the first call the core holds what it needs. -/
theorem into0 (c : Dev nD) : iprop(StableHlo.held (c : Thread nD τ) (Pipeline.ucRefs τ sig) (V5 m c) ∗ coreP 0 c) ⊢ (reg0 m).pre c := by
  refine BIBase.Entails.trans ?_ (RegionSeg.ofHeldIn_pre (pcs := pcfgs (F := F)) (a := adm) (p := 0) sub0 c)
  unfold coreP
  iintro ⟨Hh, HO, Hp⟩
  isplitl [Hh]; · iexact Hh
  isplitl [HO]; · iexact HO
  isplitr; · iempintro
  iexact Hp

/-- The first region changes the row sums only. -/
theorem left0 (c : Dev nD) : Pipeline.afterRegion (dat0 (inV m) c) (V5 m c) = V6 m (outsOf m) c := by
  rw [V6_eq]
  funext b
  by_cases h : ∃ w : Fin cfg0.W, b = Proc.devRef .tc (Pipeline.arrRef cfg0.spec w)
  · obtain ⟨w, rfl⟩ := h
    refine (Pipeline.afterRegion_arr (dat0 (inV m) c) (V5 m c) launch0.win.arr_inj w).trans ?_
    have hin : ∀ w : Fin cfg0.W, (cfg0.win w).isOut = false → (Proc.devRef .tc (Pipeline.arrRef cfg0.spec w) : DevRef τ sig) ≠ Proc.devRef .tc main_v20
        → (dat0 (inV m) c).arrAt w cfg0.N = Function.update (V5 m c) main_v20 (sumV m c) (Proc.devRef .tc (Pipeline.arrRef cfg0.spec w)) := by
      intro w hw hne
      rw [(dat0 (inV m) c).arrAt_in w hw, Function.update_of_ne hne]
      rfl
    fin_cases w
    · exact hin 0 rfl (by decide)
    · exact hin 1 rfl (by decide)
    · exact hin 2 rfl (by decide)
    · exact (Function.update_self (β := fun b : DevRef τ sig => b.ty.Contents (Elt F)) (Proc.devRef .tc main_v20) (sumV m c) (V5 m c)).symm
  · have hb : b ≠ Proc.devRef .tc main_v20 := fun e => h ⟨3, e⟩
    rw [Function.update_of_ne hb]
    unfold Pipeline.afterRegion
    rw [dif_neg h]

/-- After it the core holds every buffer again. -/
theorem outof0 (c : Dev nD) : (reg0 m).post c ⊢ iprop(StableHlo.held (c : Thread nD τ) (Pipeline.ucRefs τ sig) (V6 m (outsOf m) c) ∗ coreP 1 c) := by
  refine BIBase.Entails.trans (RegionSeg.ofHeldIn_post (pcs := pcfgs (F := F)) (a := adm) (p := 0) sub0 c) ?_
  rw [show Pipeline.afterRegion (pdats m 0 c) (inV m c) = V6 m (outsOf m) c from left0 m c]
  unfold coreP
  iintro ⟨Hh, HO, -, Hp⟩
  isplitl [Hh]; · iexact Hh
  isplitl [HO]; · iexact HO
  iexact Hp

/-- The second call's result, which the pipeline does not stage, is among the buffers left to it. -/
theorem sub2 : Pipeline.hbmRefs (τ := τ) ({main_v23} : Finset (Ref sig .tc))
    ⊆ (Pipeline.ucRefs τ sig \ Pipeline.arrRefs (τ := τ) spec1) \ Pipeline.hbmRefs (τ := τ) (∅ : Finset (Ref sig .tc)) := by decide +kernel

/-- The second region leaves its operands as they were. -/
theorem kept1 (c : Dev nD) (w : Fin cfg1.W) : (dat1 (midV m) c).arrAt w cfg1.N
    = Function.update (midV m c) main_v23 (probV m c) (Proc.devRef .tc (Pipeline.arrRef cfg1.spec w)) := by
  have hne : ∀ w : Fin cfg1.W, (Proc.devRef .tc (Pipeline.arrRef cfg1.spec w) : DevRef τ sig) ≠ Proc.devRef .tc main_v23 := by decide
  have hin : ∀ w : Fin cfg1.W, (cfg1.win w).isOut = false := by decide
  rw [(dat1 (midV m) c).arrAt_in w (hin w), Function.update_of_ne (hne w)]
  rfl

/-- The second call as an item of the program. -/
def reg1 : RegionSeg (pcfgs (F := F)) adm (pdats m) () (defs₀ (F := F)) 𝒱₀ lvls (fun _ _ => 0) 1 :=
  RegionSeg.ofHeldDW (pcfgs (F := F)) adm (pdats m) () (defs₀ (F := F)) 𝒱₀ lvls (fun _ _ => 0) 1 (fun _ => 0) () osem1 ownSemFacts1
    ∅ {main_v23} (Pipeline.ucRefs τ sig \ Pipeline.arrRefs (τ := τ) spec1) (by intro x hx; exact absurd hx (by simp [Pipeline.hbmRefs])) sub2 launch1.toP rfl
    (fun c => (body_obligation1 (midV m) c).loose) (fun _ _ => rfl) (fun _ => rfl)
    (fun c => (dat1 (midV m) c).share_full fun _ => rfl)
    (fun c => by
      iintro -
      iapply (Transfers.MayWaits.zero (c : Thread nD τ) ())
      iempintro)
    (midV m) (fun c => Function.update (midV m c) main_v23 (probV m c))
    (fun c b hb => by
      refine (Function.update_of_ne (fun e => (Finset.mem_sdiff.1 hb).2 ?_) _ _).trans rfl
      rw [e]; exact Finset.mem_map.2 ⟨main_v23, Finset.mem_singleton_self _, rfl⟩)
    (fun c => by
      rw [BI.bigSep_empty, BI.bigSep_singleton]
      show _ ⊢ keep1 (midV m) c 0
      iintro ⟨Hr, Hp, Hs, -, Ho, -⟩
      iapply (enter1 (midV m) c)
      isplitl [Hr]; · iexact Hr
      isplitl [Hp]; · iexact Hp
      isplitl [Hs]; · iexact Hs
      iexact Ho)
    (fun c => by
      rw [BI.bigSep_empty, BI.bigSep_singleton, Function.update_self]
      refine BIBase.Entails.trans (leave1 (midV m) c) ?_
      iintro ⟨Hr, Hp, Hs, Ho⟩
      isplitl [Hr]; · iexact Hr
      isplitl [Hp]; · iexact Hp
      isplitl [Hs]; · iexact Hs
      isplitr; · iempintro
      iexact Ho)
    (fun _ => 0) (cut 1) (fun _ => iprop(emp)) (fun _ _ => rfl)
    (fun c w => kept1 m c w)

/-- Before the second call the core holds what it needs. -/
theorem into1 (c : Dev nD) : iprop(StableHlo.held (c : Thread nD τ) (Pipeline.ucRefs τ sig) (V7 m (outsOf m) c) ∗ coreP 1 c) ⊢ (reg1 m).pre c := by
  rw [V7_eq, StableHlo.held_sub_split (c : Thread nD τ) sub1 (midV m c)]
  show _ ⊢ iprop(StableHlo.held (c.tc : Thread nD τ) (Pipeline.arrRefs spec1) (midV m c) ∗ (∃ r, prngReg c r)
      ∗ (StableHlo.held (c.tc : Thread nD τ) (Pipeline.ucRefs τ sig \ Pipeline.arrRefs (τ := τ) spec1) (midV m c) ∗ emp) ∗ ∃ Wd, owes (c : Thread nD τ) 0 Wd)
  unfold coreP
  iintro ⟨⟨Ha, Hr⟩, HO, Hp⟩
  isplitl [Ha]; · iexact Ha
  isplitl [Hp]; · iexact Hp
  isplitl [Hr]
  · isplitl [Hr]; · iexact Hr
    iempintro
  iexact HO

/-- After it the core holds every buffer again. -/
theorem outof1 (c : Dev nD) : (reg1 m).post c ⊢ iprop(StableHlo.held (c : Thread nD τ) (Pipeline.ucRefs τ sig) (V8 m (outsOf m) c) ∗ coreP 2 c) := by
  rw [V8_eq, StableHlo.held_sub_split (c : Thread nD τ) sub1 (Function.update (midV m c) main_v23 (probV m c))]
  show iprop(StableHlo.held (c.tc : Thread nD τ) (Pipeline.arrRefs spec1) (Function.update (midV m c) main_v23 (probV m c)) ∗ (∃ r, prngReg c r)
      ∗ (StableHlo.held (c.tc : Thread nD τ) (Pipeline.ucRefs τ sig \ Pipeline.arrRefs (τ := τ) spec1) (Function.update (midV m c) main_v23 (probV m c)) ∗ emp)
      ∗ ∃ Wd, owes (c : Thread nD τ) 0 Wd) ⊢ _
  unfold coreP
  iintro ⟨Ha, Hp, ⟨Hr, -⟩, HO⟩
  isplitl [Ha Hr]
  · isplitl [Ha]; · iexact Ha
    iexact Hr
  isplitl [HO]; · iexact HO
  iexact Hp

/-! ## The launch and the end -/

/-- The launch's tokens. -/
def startU : UU := (initOf (Pipeline.cells cfgs cellOf_inj) (Pipeline.launchToks cfgs cellOf_inj), 1)
/-- The pipeline's part of the ghost state. -/
abbrev EP : Emb (UR sig nD τ) (MT nD τ sig Unit (Elt F) ℕ UU ℕ) := embL

/-- What a core holds at the end. -/
def Ends (c : Dev nD) (s : MemSt nD τ sig (Elt F)) : Prop :=
  s.mem ((c.tc : Thread nD τ).loc main_v38) = V9 m (outsOf m) c (Proc.devRef .tc main_v38)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

/-- A buffer that is not scoped is among those a core holds. -/
theorem uc_mem (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

set_option backward.isDefEq.respectTransparency.types false in
/-- From any memory with every counter at zero, every fair execution of the program ends with the result at the last
    valuation, the arguments as launched and every counter at zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ lvls (fun _ _ => 0) m ρ main
    (segs m (outsOf m) 𝒱₀ lvls (fun _ _ => 0) coreP () (pdats m) (reg0 m) (reg1 m))
    (fun c Q => by
      rewrite [main_chain c, Seg.run_eq_chain,
        show (segs m (outsOf m) 𝒱₀ lvls (fun _ _ => 0) coreP () (pdats m) (reg0 m) (reg1 m) c).map Seg.prog = [
          StableHlo.seq hostOps0, StableHlo.seq hostOps0_1, StableHlo.seq hostOps0_2, StableHlo.seq hostOps0_3, StableHlo.seq hostOps0_4,
          Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [segs, Seg.pipes_host, Seg.pipes_region, Seg.pipes_nil]; decide) (fun _ => 0) lvls_off (fun _ => iprop(emp)) startU ?_
    (T₀ := fun c => iprop(StableHlo.held (c : Thread nD τ) (Pipeline.ucRefs τ sig) (V0 m c) ∗ coreP 0 c))
    (Tₙ := fun c => StableHlo.held (c : Thread nD τ) (Pipeline.ucRefs τ sig) (V9 m (outsOf m) c))
    (hch := fun c => ⟨.rfl, .rfl, .rfl, .rfl, .rfl, into0 m c, outof0 m c, into1 m c, outof1 m c, sep_mono .rfl ?_⟩)
    (hinit := ?_) (QY := fun c s => Ends m c s)
    (hfin := fun c s' => ?_) (hQ := fun _ h hz => ⟨h, funext fun g => hz g (.inr (regions_no_unscoped g.2))⟩)
  · unfold startU
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · unfold coreP
    iintro ⟨HO, -⟩; iexact HO
  · have hcore : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (V0 m c) ∗ coreP 0 c) : sProp 𝕄) := fun c => by
      rw [← Pipeline.unscopedBufs_held (Ix := Unit) (Name := ℕ) (U := UU) (Lvl := ℕ) c (V0 m c)]
      unfold coreP
      iintro ⟨Hb, -, HO, -, Hp, -⟩
      isplitl [Hb]; · iexact Hb
      isplitl [HO]; · iexists _; iexact HO
      iexists _; iexact Hp
    iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ coreP 0 c) : sProp 𝕄)
        from bigSep_mono fun c _ => hcore c) $$ H
  · unfold StableHlo.held
    iintro ⟨Hh, HSI⟩
    ihave Hr := (pointsTo_read_all (Pipeline.ucRefs τ sig) (fun b => ((c : Thread nD τ).1, b)) (V9 m (outsOf m) c) s') $$ [Hh HSI]
    · isplitl [Hh] <;> iassumption
    icases Hr with ⟨%h, HSI⟩
    imodintro
    isplitr
    · ipureintro
      exact ⟨h _ (uc_mem main_v38 rfl), (h _ (uc_mem main_arg0 rfl)).trans (V9_main_arg0 m (outsOf m) c),
        (h _ (uc_mem main_arg1 rfl)).trans (V9_main_arg1 m (outsOf m) c), (h _ (uc_mem main_arg2 rfl)).trans (V9_main_arg2 m (outsOf m) c),
        (h _ (uc_mem main_arg3 rfl)).trans (V9_main_arg3 m (outsOf m) c)⟩
    iexact HSI

end Cert.Proof.Kernel

end
-- ==== Proof.Same.lean ====
/-
  The program read over the extended reals is the same program: its bodies, its table of bodies and its main are the other's.
  So what is proved of the one, for any float values, is proved of the other.
-/
module

public import proofs.«01_k».proof.Defs
public import proofs.«01_k».proof.Proof.Gen.Kernel
public import proofs.«01_k».proof.Proof.Gen.KernelIdeal
public import Idealize.ShloMosaic.Lib.Pipeline

@[expose] public section

noncomputable section

namespace Cert.Proof

open Idealize.ShloMosaic Idealize.SL.Sem

set_option maxHeartbeats 4000000
set_option maxRecDepth 65536
open Cert.Kernel.Gen Cert.KernelIdeal.Gen

variable {F : FTy → Type} [FloatOps F]

/-- The first call's body, at a grid point and on staging buffers. -/
theorem sum_same (t : Fin Cert.Kernel.grid0.N) (s : (w : Fin 4) → Fin (Cert.Kernel.win0 w).nbuf) :
    Cert.KernelIdeal.defs₀ (F := F) .tc (0 : Fin 2) (t, s) = Cert.Kernel.defs₀ (F := F) .tc (0 : Fin 2) (t, s) := by
  with_unfolding_all rfl
/-- The second call's body. -/
theorem prob_same (t : Fin Cert.Kernel.grid1.N) (s : (w : Fin 4) → Fin (Cert.Kernel.win1 w).nbuf) :
    Cert.KernelIdeal.defs₀ (F := F) .tc (1 : Fin 2) (t, s) = Cert.Kernel.defs₀ (F := F) .tc (1 : Fin 2) (t, s) := by
  with_unfolding_all rfl

/-- The table of the two bodies. -/
theorem defs₀_same : Cert.KernelIdeal.defs₀ (F := F) = Cert.Kernel.defs₀ (F := F) := by
  funext p ℓ a
  match p with
  | .tc =>
    match ℓ, a with
    | (0 : Fin 2), (t, s) => exact sum_same t s
    | (1 : Fin 2), (t, s) => exact prob_same t s
  | .scScalar _ => rfl
  | .scVector _ _ => rfl
/-- The table of the bodies and of the two pipelines. -/
theorem defs_same : Cert.KernelIdeal.defs (F := F) = Cert.Kernel.defs (F := F) :=
  (congrArg (Pipeline.defs (Cert.KernelIdeal.pcfgs (F := F))) (defs₀_same (F := F))).trans (by with_unfolding_all rfl)

/-- The host program with its two calls. -/
theorem main_same : Cert.KernelIdeal.main (F := F) = Cert.Kernel.main (F := F) := by with_unfolding_all rfl

/-- A run of the one is a run of the other. -/
theorem run_same (m : (ℓ : Loc Cert.KernelIdeal.nD Cert.KernelIdeal.τ Cert.KernelIdeal.sig) → Buf (Elt F) ℓ) (g : Dev Cert.KernelIdeal.nD → PrngReg)
    (Q : PUnit × MemSt Cert.KernelIdeal.nD Cert.KernelIdeal.τ Cert.KernelIdeal.sig (Elt F) → Prop)
    (h : θ_run (Cert.Kernel.defs (F := F)) (onTc (τ := Cert.Kernel.τ) (Cert.Kernel.main (F := F))) ⟨m, fun _ => 0, g⟩ Q) :
    θ_run (Cert.KernelIdeal.defs (F := F)) (onTc (τ := Cert.KernelIdeal.τ) (Cert.KernelIdeal.main (F := F))) ⟨m, fun _ => 0, g⟩ Q := by
  rw [defs_same, main_same]
  exact h

end Cert.Proof

end
-- ==== Proof.SoftmaxLaw.lean ====
/-
  The softmax of a row of real numbers does not depend on the number subtracted before the exponential is taken.
  Everything is said of extended reals that happen to be real.
-/
module

public import Idealize.ShloMosaic.PureOps.Ideal
public import Mathlib.Data.EReal.Inv
public import Mathlib.Analysis.SpecialFunctions.Exp

@[expose] public section

open Idealize.ShloMosaic
open scoped BigOperators

namespace Cert.Proof

/-- `x` is one of the real numbers. -/
def IsReal (x : EReal) : Prop := ∃ r : ℝ, x = (r : EReal)

/-- A sum of two real numbers is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A product of two real numbers is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

variable {ι : Type} [Fintype ι]

/-- A finite sum of real numbers, read among the extended reals, is their sum. -/
theorem coe_total (a : ι → ℝ) (s : Finset ι) : (∑ i ∈ s, (a i : EReal)) = ((∑ i ∈ s, a i : ℝ) : EReal) := by
  classical
  induction s using Finset.induction_on with
  | empty => simp
  | insert i s hi ih => rw [Finset.sum_insert hi, Finset.sum_insert hi, ih, EReal.coe_add]

/-- A finite sum of real numbers is real. -/
theorem IsReal.total {f : ι → EReal} (h : ∀ i, IsReal (f i)) : IsReal (∑ i, f i) := by
  choose a ha using h
  exact ⟨∑ i, a i, by rw [← coe_total]; exact Finset.sum_congr rfl fun i _ => ha i⟩

/-- The largest of a nonempty family, taken from −∞ on, is a member of it. -/
theorem fold_mem [Nonempty ι] (f : ι → EReal) : ∃ i, Finset.fold max ⊥ f Finset.univ = f i := by
  obtain ⟨i, -, hi⟩ := Finset.exists_mem_eq_sup Finset.univ Finset.univ_nonempty f
  exact ⟨i, hi⟩

/-- The largest of finitely many real numbers is real. -/
theorem IsReal.fold [Nonempty ι] {f : ι → EReal} (h : ∀ i, IsReal (f i)) : IsReal (Finset.fold max ⊥ f Finset.univ) := by
  obtain ⟨i, hi⟩ := fold_mem f
  exact hi ▸ h i

/-- The square root of a sum of squares of real numbers is real. -/
theorem IsReal.norm {f : ι → EReal} (h : ∀ i, IsReal (f i)) : IsReal (Ideal.sqrt (∑ i, f i * f i)) := by
  choose a ha using h
  have e : (∑ i, f i * f i) = ((∑ i, a i * a i : ℝ) : EReal) := by
    rw [← coe_total]; exact Finset.sum_congr rfl fun i _ => by rw [ha i, EReal.coe_mul]
  rw [e, Ideal.sqrt_coe, if_neg (not_lt.mpr (Finset.sum_nonneg fun i _ => mul_self_nonneg (a i)))]
  exact ⟨_, rfl⟩

/-- The square root of the largest of several sums of squares of real numbers is real. -/
theorem IsReal.top_norm {κ : Type} [Fintype κ] [Nonempty κ] {f : κ → ι → EReal} (h : ∀ j i, IsReal (f j i)) :
    IsReal (Ideal.sqrt (Finset.fold max ⊥ (fun j => ∑ i, f j i * f j i) Finset.univ)) := by
  obtain ⟨j, hj⟩ := fold_mem fun j => ∑ i, f j i * f j i
  rw [hj]
  exact IsReal.norm (h j)

/-- The exponentials of a row with any real number subtracted, over their sum, are the same row of numbers as with any other. -/
theorem softmax_shift [Nonempty ι] {l : ι → EReal} {c d : EReal} (hl : ∀ i, IsReal (l i)) (hc : IsReal c) (hd : IsReal d) (u : ι) :
    Ideal.exp (l u - c) * Ideal.div 1 (∑ v, Ideal.exp (l v - c)) = Ideal.div (Ideal.exp (l u - d)) (∑ v, Ideal.exp (l v - d)) := by
  choose a ha using hl
  obtain ⟨c, rfl⟩ := hc; obtain ⟨d, rfl⟩ := hd
  have e : ∀ (t : ℝ) v, Ideal.exp (l v - t) = ((Real.exp (a v - t) : ℝ) : EReal) := fun t v => by
    rw [ha v, ← EReal.coe_sub, Ideal.exp_coe]
  have p : ∀ t : ℝ, 0 < ∑ v, Real.exp (a v - t) := fun t =>
    Finset.sum_pos (fun v _ => Real.exp_pos _) Finset.univ_nonempty
  simp only [e, coe_total]
  rw [Ideal.div_coe (p c).ne', Ideal.div_coe (p d).ne', one_mul, ← EReal.coe_mul, ← EReal.coe_mul]
  congr 1
  have q : ∀ v, Real.exp (a v - c) = Real.exp (d - c) * Real.exp (a v - d) := fun v => by
    rw [← Real.exp_add]; congr 1; ring
  have hs : (∑ v, Real.exp (a v - c)) = Real.exp (d - c) * ∑ v, Real.exp (a v - d) := by
    rw [Finset.mul_sum]; exact Finset.sum_congr rfl fun v _ => q v
  rw [hs, q u]
  have h1 := (p d).ne'
  have h2 := (Real.exp_pos (d - c)).ne'
  field_simp

/-- A number whose absolute value is below +∞ is real. -/
theorem isReal_of_abs {x : EReal} (h : max x (-x) < ⊤) : IsReal x := by
  induction x with
  | bot => simp at h
  | top => simp at h
  | coe r => exact ⟨r, rfl⟩

end Cert.Proof
-- ==== Proof.Finite.lean ====
/-
  What the precondition says: every element of the rows, of the weights and of the biases is a real number.
-/
module

public import proofs.«01_k».proof.Proof.Gen.Pre_finite
public import proofs.«01_k».proof.Proof.SoftmaxLaw

@[expose] public section

noncomputable section

namespace Cert.Proof

open Idealize.ShloMosaic Cert.Pre_finite Cert.Pre_finite.Gen

/-- An element whose absolute value compares below +∞ is real. -/
theorem isReal_of_word {x : EReal} (h : (FloatOps.cmpf (F := Ideal) (φ := .f32) .olt (FloatOps.hostAbsf (F := Ideal) (φ := .f32) x) (FloatOps.ofBits .f32 0x7F800000#32)) = 1#1) :
    IsReal x := by
  have t : (FloatOps.ofBits .f32 0x7F800000#32 : Ideal .f32) = (⊤ : EReal) := by simp [Ideal.ofBits, Ideal.ieee]
  rw [t] at h
  refine isReal_of_abs (x := x) ?_
  by_contra hn
  have h' : Ideal.cmp .olt (max x (-x)) ⊤ = 1#1 := h
  simp [Ideal.cmp, hn] at h'

variable {x0 : FVec Ideal S1024x32 .f32} {x1 : IVec S1024 32} {x2 : FVec Ideal S100000x32 .f32} {x3 : FVec Ideal S100000 .f32}

/-- The precondition's first part: the rows are real. -/
theorem real_rows (h : (fn (F := Ideal) x0 x1 x2 x3).1 = fun _ => 1#1) (i : S1024x32.Idx) : IsReal (x0 i) :=
  isReal_of_word (congrFun h i)
/-- Its second: the weights are real. -/
theorem real_weights (h : (fn (F := Ideal) x0 x1 x2 x3).2.1 = fun _ => 1#1) (i : S100000x32.Idx) : IsReal (x2 i) :=
  isReal_of_word (congrFun h i)
/-- Its third: the biases are real. -/
theorem real_biases (h : (fn (F := Ideal) x0 x1 x2 x3).2.2 = fun _ => 1#1) (i : S100000.Idx) : IsReal (x3 i) :=
  isReal_of_word (congrFun h i)

end Cert.Proof

end
-- ==== Proof.Reference.lean ====
/-
  The reference's result at every index: the softmax of a row of logits, the row's largest logit subtracted first.
-/
module

public import proofs.«01_k».proof.Proof.Gen.ReferenceIdeal.Read
public import Idealize.ShloMosaic.Lib.Pipeline.ValueKit.Point

@[expose] public section

set_option maxRecDepth 16384

noncomputable section

namespace Cert.Proof.ReferenceIdeal

open Cert.ReferenceIdeal Cert.ReferenceIdeal.Gen Cert.ReferenceIdeal.Read Idealize.ShloMosaic Idealize.ShloMosaic.TcCoe Idealize.ShloMosaic.Tactic

/-- The greatest entry of a row, from −∞ on. -/
theorem top_at (y : FVec Ideal S1024x100000 .f32) (z : FVec Ideal S_ .f32) (r : Fin 1024) :
    Host.reduce FloatOps.maximumf y z reducesTo_S1024x100000_S1024_d1 h_S_ (ix1 r)
      = Finset.fold max (z (Shape.Idx.first h_S_) : EReal) (fun v : Fin 100000 => (y (ix2 r v) : EReal)) Finset.univ := by
  pointwise

variable {x0 : FVec Ideal S1024x32 .f32} {x2 : FVec Ideal S100000x32 .f32} {x3 : FVec Ideal S100000 .f32}
  {x : Fin 1024 → Fin 32 → EReal} {w : Fin 100000 → Fin 32 → EReal} {b : Fin 100000 → EReal}
  (hx : ∀ r k, x0 (ix2 r k) = x r k) (hw : ∀ u k, x2 (ix2 u k) = w u k) (hb : ∀ u, x3 (ix1 u) = b u)

/-- Column `u`'s logit in row `r`. -/
def logitOf (x : Fin 1024 → Fin 32 → EReal) (w : Fin 100000 → Fin 32 → EReal) (b : Fin 100000 → EReal) (r : Fin 1024) (u : Fin 100000) : EReal :=
  (∑ k, x r k * w u k) + b u

/-- The greatest logit of row `r`. -/
def topOf (x : Fin 1024 → Fin 32 → EReal) (w : Fin 100000 → Fin 32 → EReal) (b : Fin 100000 → EReal) (r : Fin 1024) : EReal :=
  Finset.fold max ⊥ (fun u => logitOf x w b r u) Finset.univ

include hx hw hb

/-- The reference's logits. -/
theorem logit_at (r : Fin 1024) (u : Fin 100000) : val_main_v4 (F := Ideal) x0 x2 x3 (ix2 r u) = logitOf x w b r u := by
  rw [val_main_v4_apply, val_main_v1_apply, val_main_v3_apply, val_main_v2_apply]
  have i1 : ∀ k, lidx_main_v1 (ix2 r u) k = ix2 r k := fun k => funext fun a => match a with | ⟨0, _⟩ => rfl | ⟨1, _⟩ => rfl
  have i2 : ∀ k, idx_main_v0 (ridx_main_v1 (ix2 r u) k) = ix2 u k := fun k => funext fun a => match a with | ⟨0, _⟩ => rfl | ⟨1, _⟩ => rfl
  have e1 : ∀ k, x0 (lidx_main_v1 (ix2 r u) k) = x r k := fun k => (congrArg x0 (i1 k)).trans (hx r k)
  have e2 : ∀ k, val_main_v0 (F := Ideal) x2 (ridx_main_v1 (ix2 r u) k) = w u k := fun k =>
    (val_main_v0_apply (F := Ideal) x2 (ridx_main_v1 (ix2 r u) k)).trans ((congrArg x2 (i2 k)).trans (hw u k))
  have i3 : idx_main_v2 (idx_main_v3 (ix2 r u)) = ix1 u := funext fun a => match a with | ⟨0, _⟩ => rfl
  have e3 : x3 (idx_main_v2 (idx_main_v3 (ix2 r u))) = b u :=
    (congrArg x3 i3).trans (hb u)
  rw [e3]
  show (∑ k, x0 (lidx_main_v1 (ix2 r u) k) * val_main_v0 (F := Ideal) x2 (ridx_main_v1 (ix2 r u) k)) + b u = _
  exact congrArg (· + b u) (Finset.sum_congr rfl fun k _ => congrArg₂ (· * ·) (e1 k) (e2 k))

/-- The reference's largest logit of a row. -/
theorem max_at (r : Fin 1024) : val_main_v7 (F := Ideal) x0 x2 x3 (ix1 r) = topOf x w b r := by
  rw [val_main_v7_apply, val_main_v6_apply]
  have b0 : (val_main_cst_0 (F := Ideal) (idx_main_v6 (ix1 r)) : EReal) = ⊥ := by
    rw [val_main_cst_0_apply]; simp [Ideal.ofBits, Ideal.ieee]
  have b1 : (val_main_cst (F := Ideal) (Shape.Idx.first h_S_) : EReal) = ⊥ := by
    rw [val_main_cst_apply]; simp [Ideal.ofBits, Ideal.ieee]
  have t : val_main_v5 (F := Ideal) x0 x2 x3 (ix1 r) = topOf x w b r := by
    refine (top_at _ _ r).trans ?_
    rw [b1]
    exact congrArg (fun f => Finset.fold max ⊥ f Finset.univ) (funext fun v => logit_at hx hw hb r v)
  rw [b0, t]
  exact max_eq_right bot_le

/-- The reference's exponentials. -/
theorem exp_at (r : Fin 1024) (u : Fin 100000) :
    val_main_v11 (F := Ideal) x0 x2 x3 (ix2 r u) = Ideal.exp (logitOf x w b r u - topOf x w b r) := by
  rw [val_main_v11_apply, val_main_v10_apply, val_main_v9_apply, val_main_v8_apply, logit_at hx hw hb]
  have e : idx_main_v8 (idx_main_v9 (ix2 r u)) = ix1 r := funext fun a => match a with | ⟨0, _⟩ => rfl
  rw [e, max_at hx hw hb]
  rfl

/-- The reference's result at row `r`, column `u`. -/
theorem softmax_at (r : Fin 1024) (u : Fin 100000) :
    val_main_v15 (F := Ideal) x0 x2 x3 (ix2 r u)
      = Ideal.div (Ideal.exp (logitOf x w b r u - topOf x w b r)) (∑ v, Ideal.exp (logitOf x w b r v - topOf x w b r)) := by
  rw [val_main_v15_apply, val_main_v14_apply, val_main_v13_apply, val_main_v12_apply, exp_at hx hw hb]
  have z : (val_main_cst_1 (F := Ideal) (Shape.Idx.first h_S_) : EReal) = 0 := by
    rw [val_main_cst_1_apply]; simp [Ideal.ofBits, Ideal.ieee]
  have i : ∀ v, idx_main_v12 (idx_main_v13 (idx_main_v14 (ix2 r u))) v = ix2 r v := fun v =>
    funext fun a => match a with | ⟨0, _⟩ => rfl | ⟨1, _⟩ => rfl
  have e : ∀ v, val_main_v11 (F := Ideal) x0 x2 x3 (idx_main_v12 (idx_main_v13 (idx_main_v14 (ix2 r u))) v)
      = Ideal.exp (logitOf x w b r v - topOf x w b r) := fun v =>
    (congrArg (val_main_v11 (F := Ideal) x0 x2 x3) (i v)).trans (exp_at hx hw hb r v)
  rw [z, Finset.sum_congr rfl fun v _ => e v, zero_add]
  rfl

end Cert.Proof.ReferenceIdeal

end
-- ==== Proof.Blocks.lean ====
/-
  The two regions' values over the extended reals, element by element: the row sums are the sums over all padded columns of the
  exponentials of the shifted logits, and a probability is its exponential times the reciprocal the region is given.
-/
module

public import proofs.«01_k».proof.Proof.Run
public import Idealize.ShloMosaic.Lib.Claim
public import Idealize.ShloMosaic.Lib.Pipeline.ValueKit.Point

@[expose] public section

set_option maxRecDepth 16384

noncomputable section

namespace Cert.Proof.Kernel

open Cert.Kernel Cert.Kernel.Gen Idealize.ShloMosaic Idealize.ShloMosaic.TcCoe Idealize.ShloMosaic.Tactic

variable (V : Dev nD → Valuation τ sig (Elt Ideal)) (c : Dev nD)

/-! ## The operands, as arrays of extended reals -/

/-- The extended rows, the extended columns, the shift, the row sums and the reciprocals, at an index. -/
def rowA (r : Fin 1024) (k : Fin 33) : EReal := V c (Proc.devRef .tc main_v1) (ix2 r k)
/-- The columns' weights and biases, padded. -/
def colA (k : Fin 33) (u : Fin 102400) : EReal := V c (Proc.devRef .tc main_v6) (ix2 k u)
/-- The rows' shift. -/
def shiftA (r : Fin 1024) : EReal := V c (Proc.devRef .tc main_v19) (ix2 r 0)
/-- The reciprocals of the rows' sums. -/
def recA (r : Fin 1024) : EReal := V c (Proc.devRef .tc main_v22) (ix2 r 0)

/-- The exponential of the shifted logit of row `r` at the padded column `u`. -/
def expA (r : Fin 1024) (u : Fin 102400) : EReal := Ideal.exp ((∑ k : Fin 33, rowA V c r k * colA V c k u) - shiftA V c r)
/-- The same by number, zero past the padded columns. -/
def expN (r : Fin 1024) (n : ℕ) : EReal := if h : n < 102400 then expA V c r ⟨n, h⟩ else 0

/-! ## What a step computes -/

/-- The first step's sum of a row: the block's exponentials. -/
theorem pay1_at (a b d) (r : Fin 1024) : k0_pay1 (F := Ideal) a b d (ix2 r 0)
    = ∑ q : Fin 4096, Ideal.exp ((∑ k : Fin 33, a (ix2 r k) * b (ix2 k q)) - d (ix2 r 0)) := by
  pointwise [k0_pay1]
/-- A later step's sum of a row: what it was and the block's exponentials. -/
theorem pay2_at (a b d e) (r : Fin 1024) : k0_pay2 (F := Ideal) a b d e (ix2 r 0)
    = e (ix2 r 0) + ∑ q : Fin 4096, Ideal.exp ((∑ k : Fin 33, a (ix2 r k) * b (ix2 k q)) - d (ix2 r 0)) := by
  pointwise [k0_pay2, k0_pay1]
/-- A step's block of probabilities, at a row and column. -/
theorem pay_at (a b d e) (r : Fin 1024) (q : Fin 4096) : k1_pay1 (F := Ideal) a b d e (ix3 0 r q)
    = Ideal.exp ((∑ k : Fin 33, a (ix2 r k) * b (ix2 k q)) - d (ix2 r 0)) * e (ix2 r 0) := by
  pointwise [k1_pay1]

/-! ## The blocks a step reads -/

/-- Which block of each operand a step of the first call reads. -/
theorem idx0 : ∀ t : Fin grid0.N, win0_0.index t = ![0, 0] ∧ win0_1.index t = ![0, t.val] ∧ win0_2.index t = ![0, 0] := by decide +kernel
/-- Which block of each operand a step of the second call reads. -/
theorem idx1 : ∀ t : Fin grid1.N, win1_0.index t = ![0, 0] ∧ win1_1.index t = ![0, t.val] ∧ win1_2.index t = ![0, 0] ∧ win1_3.index t = ![0, 0] := by
  decide +kernel

/-- The first call's blocks, at an index: the rows, -/
theorem row0_at (t : Fin cfg0.N) (r : Fin 1024) (k : Fin 33) : iblk0 V c 0 t (ix2 r k) = rowA V c r k := by
  unfold rowA; blk_ext [iblk0, idx0 t]
/-- the columns, -/
theorem col0_at (t : Fin cfg0.N) (k : Fin 33) (q : Fin 4096) (h : t.val * 4096 + q.val < 102400) :
    iblk0 V c 1 t (ix2 k q) = colA V c k ⟨t.val * 4096 + q.val, h⟩ := by
  unfold colA; blk_ext [iblk0, idx0 t]
/-- the shift. -/
theorem shift0_at (t : Fin cfg0.N) (r : Fin 1024) : iblk0 V c 2 t (ix2 r 0) = shiftA V c r := by
  unfold shiftA; blk_ext [iblk0, idx0 t]
/-- The second call's blocks, at an index: the rows, -/
theorem row1_at (t : Fin cfg1.N) (r : Fin 1024) (k : Fin 33) : iblk1 V c 0 t (ix2 r k) = rowA V c r k := by
  unfold rowA; blk_ext [iblk1, idx1 t]
/-- the columns, -/
theorem col1_at (t : Fin cfg1.N) (k : Fin 33) (q : Fin 4096) (h : t.val * 4096 + q.val < 102400) :
    iblk1 V c 1 t (ix2 k q) = colA V c k ⟨t.val * 4096 + q.val, h⟩ := by
  unfold colA; blk_ext [iblk1, idx1 t]
/-- the shift, -/
theorem shift1_at (t : Fin cfg1.N) (r : Fin 1024) : iblk1 V c 2 t (ix2 r 0) = shiftA V c r := by
  unfold shiftA; blk_ext [iblk1, idx1 t]
/-- the reciprocals. -/
theorem rec1_at (t : Fin cfg1.N) (r : Fin 1024) : iblk1 V c 3 t (ix2 r 0) = recA V c r := by
  unfold recA; blk_ext [iblk1, idx1 t]

/-! ## The row sums -/

/-- Step `t`'s row sums: the exponentials of its 4096 columns. -/
theorem step_sum (t : Fin cfg0.N) (r : Fin 1024) (a : FVec Ideal S1024x33 .f32) (b : FVec Ideal S33x4096 .f32) (d : FVec Ideal S1024x1 .f32)
    (ha : a = iblk0 V c 0 t) (hb : b = iblk0 V c 1 t) (hd : d = iblk0 V c 2 t) :
    (∑ q : Fin 4096, Ideal.exp ((∑ k : Fin 33, a (ix2 r k) * b (ix2 k q)) - d (ix2 r 0)))
      = ∑ q ∈ Finset.range 4096, expN V c r (t.val * 4096 + q) := by
  have hN : t.val < 25 := lt_of_lt_of_eq t.isLt N_0
  rw [Finset.sum_range]
  refine Finset.sum_congr rfl fun q _ => ?_
  have h : t.val * 4096 + q.val < 102400 := by have := q.isLt; omega
  unfold expN
  rw [dif_pos h]
  unfold expA
  have e0 : d (ix2 r 0) = shiftA V c r := by rw [hd]; exact shift0_at V c t r
  rw [e0]
  refine congrArg (fun z => Ideal.exp (z - shiftA V c r)) (Finset.sum_congr rfl fun k _ => ?_)
  have e1 : a (ix2 r k) = rowA V c r k := by rw [ha]; exact row0_at V c t r k
  have e2 : b (ix2 k q) = colA V c k ⟨t.val * 4096 + q.val, h⟩ := by rw [hb]; exact col0_at V c t k q h
  rw [e1, e2]

/-- After step `n` the row sums are those of the columns of the steps so far. -/
theorem acc_at (n : ℕ) (h : n < cfg0.N) (r : Fin 1024) :
    accAt V c n h (ix2 r 0) = ∑ u ∈ Finset.range ((n + 1) * 4096), expN V c r u := by
  induction n with
  | zero =>
    show k0_pay1 (F := Ideal) _ _ _ (ix2 r 0) = _
    rw [pay1_at, step_sum V c ⟨0, h⟩ r _ _ _ rfl rfl rfl]
    simp only [Nat.zero_mul, Nat.zero_add, Nat.one_mul]
  | succ n ih =>
    show k0_pay2 (F := Ideal) _ _ _ (accAt V c n _) (ix2 r 0) = _
    rw [pay2_at, ih, step_sum V c ⟨n + 1, h⟩ r _ _ _ rfl rfl rfl, Nat.succ_mul (n + 1) 4096, Finset.sum_range_add]

/-- The array the region leaves. -/
theorem sum_at (r : Fin 1024) :
    (dat0 V c).arrAt 3 cfg0.N (ix2 r 0) = ∑ u ∈ Finset.range 102400, expN V c r u := by
  have h : (dat0 V c).arrAt 3 cfg0.N = accAt V c 24 (by rw [show cfg0.N = 25 from N_0]; decide) := by
    refine (dat0 V c).arrAt_eq_of_after_last 3 ⟨24, by rw [show cfg0.N = 25 from N_0]; decide⟩ (by decide +kernel) _ fun j => ?_
    rw [after0_3]
    blk_simp
    rfl
  rw [h, acc_at]

/-! ## The probabilities -/

/-- What step `t` stores, at an index. -/
theorem step_at (t : Fin cfg1.N) (r : Fin 1024) (q : Fin 4096) (h : t.val * 4096 + q.val < 102400) :
    payAt V c t (ix3 0 r q) = expA V c r ⟨t.val * 4096 + q.val, h⟩ * recA V c r := by
  show k1_pay1 (F := Ideal) _ _ _ _ (ix3 0 r q) = _
  rw [pay_at, rec1_at, shift1_at]
  unfold expA
  refine congrArg (fun z => Ideal.exp (z - shiftA V c r) * recA V c r) (Finset.sum_congr rfl fun k _ => ?_)
  rw [row1_at, col1_at V c t k q h]

/-- The array the region leaves, at one of the columns it writes. -/
theorem prob_at (r : Fin 1024) (u : Fin 100000) (h : u.val < 99968) :
    probOf V c (ix2 r u) = expA V c r ⟨u.val, by omega⟩ * recA V c r := by
  have hs : (stepOf u.val h).val * 4096 + u.val % 4096 = u.val := by
    show u.val / 4096 * 4096 + u.val % 4096 = u.val
    omega
  have hq : (stepOf u.val h).val * 4096 + u.val % 4096 < 102400 := by rw [hs]; omega
  have e : (⟨(stepOf u.val h).val * 4096 + u.val % 4096, hq⟩ : Fin 102400) = ⟨u.val, by omega⟩ := Fin.ext hs
  refine ((dif_pos h : probOf V c (ix2 r u) = payAt V c (stepOf u.val h) (ix3 0 r (⟨u.val % 4096, Nat.mod_lt _ (by decide)⟩ : Fin 4096))).trans
    (step_at V c _ r _ hq)).trans ?_
  exact congrArg (fun v => expA V c r v * recA V c r) e

end Cert.Proof.Kernel

end
-- ==== Proof.Host.lean ====
/-
  The program's host operations over the extended reals, element by element: what the regions are given, and the result read back.
-/
module

public import proofs.«01_k».proof.Proof.Blocks
public import Idealize.ShloMosaic.Lib.StableHlo.ReadAt

@[expose] public section

set_option maxRecDepth 16384

noncomputable section

namespace Cert.Proof.Kernel

open Cert.Kernel Cert.Kernel.Gen Idealize.ShloMosaic Idealize.ShloMosaic.TcCoe Idealize.ShloMosaic.Tactic

variable (m : (ℓ : Loc nD τ sig) → Buf (Elt Ideal) ℓ) (c : Dev nD)

/-! ## The arguments -/

/-- The rows, the columns' weights, the biases, the shift, the row sums and the probabilities, in some contents. -/
def argX (U : Valuation τ sig (Elt Ideal)) (r : Fin 1024) (k : Fin 32) : EReal := U (Proc.devRef .tc main_arg0) (ix2 r k)
/-- The columns' weights. -/
def argW (U : Valuation τ sig (Elt Ideal)) (u : Fin 100000) (k : Fin 32) : EReal := U (Proc.devRef .tc main_arg2) (ix2 u k)
/-- The biases. -/
def argB (U : Valuation τ sig (Elt Ideal)) (u : Fin 100000) : EReal := U (Proc.devRef .tc main_arg3) (ix1 u)
/-- The rows' shift. -/
def argC (U : Valuation τ sig (Elt Ideal)) (r : Fin 1024) : EReal := U (Proc.devRef .tc main_v19) (ix2 r 0)
/-- The rows' sums. -/
def argS (U : Valuation τ sig (Elt Ideal)) (r : Fin 1024) : EReal := U (Proc.devRef .tc main_v20) (ix2 r 0)
/-- The probabilities. -/
def argP (U : Valuation τ sig (Elt Ideal)) (r : Fin 1024) (u : Fin 100000) : EReal := U (Proc.devRef .tc main_v23) (ix2 r u)

/-- The arguments as launched. -/
abbrev X : Fin 1024 → Fin 32 → EReal := argX (V0 m c)
/-- The columns' weights as launched. -/
abbrev W : Fin 100000 → Fin 32 → EReal := argW (V0 m c)
/-- The biases as launched. -/
abbrev B : Fin 100000 → EReal := argB (V0 m c)

/-! ## What the regions are given -/

/-- The word of the pads is −∞. -/
theorem ofBits_bot : Ideal.ofBits .f32 0xFF800000#32 = ⊥ := by simp [Ideal.ofBits, Ideal.ieee]

/-- A row as the regions read it: its 32 entries and a one. -/
theorem row_at (r : Fin 1024) (k : Fin 33) : rowA (inV m) c r k = if h : k.val < 32 then X m c r ⟨k.val, h⟩ else 1 := by
  unfold rowA inV
  after_reads_at
  rfl

/-- A column as the regions read it: its weights padded with zeros, then its bias padded with −∞. -/
theorem col_raw (k : Fin 33) (u : Fin 102400) : colA (inV m) c k u
    = if h : k.val < 32 then
        if h' : k.val < 32 ∧ u.val < 100000 then W m c ⟨u.val, h'.2⟩ ⟨k.val, h⟩ else (FloatOps.sitofp .f32 0#32 : Ideal .f32)
      else if h' : u.val < 100000 then B m c ⟨u.val, h'⟩ else (id (constant (F := Ideal) S_ .f32 0xFF800000#32) (Shape.Idx.first h_S_) : Ideal .f32) := by
  unfold colA inV
  after_reads_at
  rfl

/-- The integer zero, as a number. -/
theorem zero_word : (FloatOps.sitofp .f32 0#32 : Ideal .f32) = 0 := by
  show ((((0#32 : BitVec 32).toInt : ℤ) : ℝ) : EReal) = 0
  simp

/-- A column's weights, its bias, and the padded columns: weights 0, bias −∞. -/
theorem col_weight (k : Fin 33) (u : Fin 102400) (hk : k.val < 32) (h : u.val < 100000) : colA (inV m) c k u = W m c ⟨u.val, h⟩ ⟨k.val, hk⟩ :=
  (col_raw m c k u).trans ((dif_pos hk).trans ((dif_pos ⟨hk, h⟩).trans rfl))
/-- and its bias. -/
theorem col_bias (k : Fin 33) (u : Fin 102400) (hk : ¬ k.val < 32) (h : u.val < 100000) : colA (inV m) c k u = B m c ⟨u.val, h⟩ :=
  (col_raw m c k u).trans ((dif_neg hk).trans ((dif_pos h).trans rfl))
/-- A padding column: zeros, -/
theorem pad_weight (k : Fin 33) (u : Fin 102400) (hk : k.val < 32) (h : ¬ u.val < 100000) : colA (inV m) c k u = 0 :=
  (col_raw m c k u).trans ((dif_pos hk).trans ((dif_neg fun h' => h h'.2).trans zero_word))
/-- and −∞. -/
theorem pad_bias (k : Fin 33) (u : Fin 102400) (hk : ¬ k.val < 32) (h : ¬ u.val < 100000) : colA (inV m) c k u = ⊥ :=
  (col_raw m c k u).trans ((dif_neg hk).trans ((dif_neg h).trans ofBits_bot))

/-- A row's shift: its norm times the columns' largest norm, and the largest bias. -/
theorem shift_at (r : Fin 1024) : shiftA (inV m) c r
    = Ideal.sqrt (∑ k, X m c r k * X m c r k)
        * Ideal.sqrt (Finset.fold max ⊥ (fun u => ∑ k, W m c u k * W m c u k) Finset.univ)
      + Finset.fold max ⊥ (fun u => B m c u) Finset.univ := by
  unfold shiftA inV
  after_reads_at
  rw [ofBits_bot]
  rfl

/-! ## Between the regions -/

/-- The three operations between the regions leave the other buffers as they were. -/
theorem mid_keep (r : Ref sig .tc) (h : r ∉ [main_cst_5, main_v21, main_v22]) (h' : r ≠ main_v20) :
    midV m c (Proc.devRef .tc r) = inV m c (Proc.devRef .tc r) := by
  unfold midV
  rw [StableHlo.after_unwritten [main_cst_5, main_v21, main_v22] rfl h,
    Function.update_of_ne fun e => h' (Proc.devRef_injective _ e)]

/-- Between the regions the sums are the first region's. -/
theorem mid_sum : midV m c (Proc.devRef .tc main_v20) = sumV m c := by
  unfold midV
  rw [StableHlo.after_unwritten [main_cst_5, main_v21, main_v22] rfl (by decide)]
  exact Function.update_self (β := fun b : DevRef τ sig => b.ty.Contents (Elt Ideal)) (Proc.devRef .tc main_v20) (sumV m c) (V5 m c)

/-- The reciprocal of a row's sum. -/
theorem rec_at (r : Fin 1024) : recA (midV m) c r = Ideal.div 1 (sumV m c (ix2 r 0)) := by
  unfold recA midV
  after_reads_at
  rw [Function.update_self]

/-- Both regions take the same exponentials. -/
theorem exp_mid (r : Fin 1024) (u : Fin 102400) : expA (midV m) c r u = expA (inV m) c r u := by
  have e1 : rowA (midV m) c = rowA (inV m) c := by
    funext r k; unfold rowA; rw [mid_keep m c main_v1 (by decide) (by decide)]
  have e2 : colA (midV m) c = colA (inV m) c := by
    funext k u; unfold colA; rw [mid_keep m c main_v6 (by decide) (by decide)]
  have e3 : shiftA (midV m) c = shiftA (inV m) c := by
    funext r; unfold shiftA; rw [mid_keep m c main_v19 (by decide) (by decide)]
  unfold expA
  rw [e1, e2, e3]

/-! ## The result -/

/-- The last operations, from any contents before them: the last 32 columns computed anew, the others as the second region left them. -/
theorem last_at (U : Valuation τ sig (Elt Ideal)) (r : Fin 1024) (u : Fin 100000) :
    StableHlo.after hostOps2 U (Proc.devRef .tc main_v38) (ix2 r u)
      = if 99968 ≤ u.val then
          Ideal.exp ((∑ k : Fin 32, argX U r k * argW U u k) + argB U u - argC U r) * Ideal.div 1 (argS U r)
        else argP U r u := by
  by_cases h : 99968 ≤ u.val
  · rw [if_pos h]
    after_reads_simp
    rw [Host.dynamicUpdateSlice_eq_updateSlice _ _ _ _ ![0, 99968] (fun a => by fin_cases a <;> (after_reads_simp; rfl)) (by decide)]
    pointwise [h]
    have e : (⟨99968 + (u.val - 99968), by omega⟩ : Fin 100000) = u := Fin.ext (by show 99968 + (u.val - 99968) = u.val; omega)
    simp only [e]
    rfl
  · rw [if_neg h]
    after_reads_simp
    rw [Host.dynamicUpdateSlice_eq_updateSlice _ _ _ _ ![0, 99968] (fun a => by fin_cases a <;> (after_reads_simp; rfl)) (by decide)]
    pointwise [h]
    rfl

/-- The arguments are untouched when the last operations run. -/
theorem late_keep (r : Ref sig .tc) (h : r ∉ [main_cst_5, main_v21, main_v22]) (h' : r ≠ main_v20) (h'' : r ≠ main_v23) :
    V8 m (outsOf m) c (Proc.devRef .tc r) = inV m c (Proc.devRef .tc r) := by
  rw [V8_eq, Function.update_of_ne (fun e => h'' (Proc.devRef_injective _ e)), mid_keep m c r h h']
/-- The operations before the regions leave the arguments as they were. -/
theorem in_arg (r : Ref sig .tc) (h0 : r ∉ hostOps0_W) (h1 : r ∉ hostOps0_1_W) (h2 : r ∉ hostOps0_2_W) (h3 : r ∉ hostOps0_3_W) (h4 : r ∉ hostOps0_4_W) :
    inV m c (Proc.devRef .tc r) = V0 m c (Proc.devRef .tc r) :=
  (V5_of m c r h4).trans ((V4_of m c r h3).trans ((V3_of m c r h2).trans ((V2_of m c r h1).trans (V1_of m c r h0))))

/-- The last operations read the rows as launched, -/
theorem late_X : argX (V8 m (outsOf m) c) = X m c := by
  funext r k; unfold argX
  rw [late_keep m c main_arg0 (by decide) (by decide) (by decide), in_arg m c main_arg0 (by decide) (by decide) (by decide) (by decide) (by decide)]
  rfl
/-- the weights, -/
theorem late_W : argW (V8 m (outsOf m) c) = W m c := by
  funext r k; unfold argW
  rw [late_keep m c main_arg2 (by decide) (by decide) (by decide), in_arg m c main_arg2 (by decide) (by decide) (by decide) (by decide) (by decide)]
  rfl
/-- the biases, -/
theorem late_B : argB (V8 m (outsOf m) c) = B m c := by
  funext u; unfold argB
  rw [late_keep m c main_arg3 (by decide) (by decide) (by decide), in_arg m c main_arg3 (by decide) (by decide) (by decide) (by decide) (by decide)]
  rfl
/-- the shift, -/
theorem late_C : argC (V8 m (outsOf m) c) = shiftA (inV m) c := by
  funext r; unfold argC shiftA
  rw [late_keep m c main_v19 (by decide) (by decide) (by decide)]
/-- the first region's sums, -/
theorem late_S (r : Fin 1024) : argS (V8 m (outsOf m) c) r = sumV m c (ix2 r 0) := by
  unfold argS
  rw [V8_eq, Function.update_of_ne (by decide), mid_sum]
/-- and the second region's probabilities. -/
theorem late_P (r : Fin 1024) (u : Fin 100000) : argP (V8 m (outsOf m) c) r u = probV m c (ix2 r u) := by
  unfold argP
  rw [V8_eq, Function.update_self]

end Cert.Proof.Kernel

end
-- ==== Proof.Result.lean ====
/-
  The kernel's result at every index: the exponential of a logit with the row's shift subtracted, over the row's sum of such exponentials.
-/
module

public import proofs.«01_k».proof.Proof.Host

@[expose] public section

set_option maxRecDepth 16384

noncomputable section

namespace Cert.Proof.Kernel

open Cert.Kernel Cert.Kernel.Gen Idealize.ShloMosaic Idealize.ShloMosaic.TcCoe Idealize.ShloMosaic.Tactic

variable (m : (ℓ : Loc nD τ sig) → Buf (Elt Ideal) ℓ) (c : Dev nD)

/-- Column `u`'s logit in row `r`. -/
def logit (r : Fin 1024) (u : Fin 100000) : EReal := (∑ k, X m c r k * W m c u k) + B m c u

/-- The exponential the regions take of a column of the problem is that of its logit less the row's shift. -/
theorem exp_col (r : Fin 1024) (u : Fin 102400) (h : u.val < 100000) :
    expA (inV m) c r u = Ideal.exp (logit m c r ⟨u.val, h⟩ - shiftA (inV m) c r) := by
  unfold expA logit
  have e : (∑ k : Fin 33, rowA (inV m) c r k * colA (inV m) c k u) = (∑ k, X m c r k * W m c ⟨u.val, h⟩ k) + B m c ⟨u.val, h⟩ := by
    rw [Fin.sum_univ_castSucc]
    congr 1
    · refine Finset.sum_congr rfl fun k _ => ?_
      have hk : (Fin.castSucc k).val < 32 := k.isLt
      rw [row_at, dif_pos hk, col_weight m c _ u hk h]
      rfl
    · have hk : ¬ (Fin.last 32).val < 32 := by simp
      rw [row_at, dif_neg hk, col_bias m c _ u hk h, one_mul]
  rw [e]

/-- A padding column adds nothing: its logit is −∞. -/
theorem exp_pad (r : Fin 1024) (u : Fin 102400) (h : ¬ u.val < 100000) : expA (inV m) c r u = 0 := by
  unfold expA
  have e : (∑ k : Fin 33, rowA (inV m) c r k * colA (inV m) c k u) = ⊥ := by
    rw [Fin.sum_univ_castSucc]
    have hk : ¬ (Fin.last 32).val < 32 := by simp
    rw [pad_bias m c _ u hk h, row_at, dif_neg hk, one_mul]
    exact EReal.add_bot _
  rw [e, sub_eq_add_neg, EReal.bot_add]
  rfl

/-- The sum over the padded columns is the sum over the problem's columns alone. -/
theorem col_sum (r : Fin 1024) :
    (∑ u ∈ Finset.range 102400, expN (inV m) c r u) = ∑ v : Fin 100000, Ideal.exp (logit m c r v - shiftA (inV m) c r) := by
  rw [show 102400 = 100000 + 2400 from rfl, Finset.sum_range_add, Finset.sum_range]
  have z : (∑ x ∈ Finset.range 2400, expN (inV m) c r (100000 + x)) = 0 := by
    refine Finset.sum_eq_zero fun x hx => ?_
    have hx' := Finset.mem_range.mp hx
    unfold expN
    rw [dif_pos (show 100000 + x < 102400 by omega)]
    exact exp_pad m c r _ (by simp)
  rw [z, add_zero]
  refine Finset.sum_congr rfl fun v _ => ?_
  unfold expN
  rw [dif_pos (show v.val < 102400 by omega)]
  exact exp_col m c r _ v.isLt
/-- What the first region leaves for a row. -/
theorem row_sum (r : Fin 1024) : sumV m c (ix2 r 0) = ∑ v : Fin 100000, Ideal.exp (logit m c r v - shiftA (inV m) c r) :=
  (sum_at (inV m) c r).trans (col_sum m c r)

/-- The kernel's result at row `r`, column `u`. -/
theorem result_at (r : Fin 1024) (u : Fin 100000) :
    V9 m (outsOf m) c (Proc.devRef .tc main_v38) (ix2 r u)
      = Ideal.exp (logit m c r u - shiftA (inV m) c r) * Ideal.div 1 (∑ v : Fin 100000, Ideal.exp (logit m c r v - shiftA (inV m) c r)) := by
  refine (last_at (V8 m (outsOf m) c) r u).trans ?_
  rw [late_X, late_W, late_B, late_C, late_S, late_P, row_sum]
  by_cases h : 99968 ≤ u.val
  · rw [if_pos h]; rfl
  · rw [if_neg h]
    refine (prob_at (midV m) c r u (by omega)).trans ?_
    rw [exp_mid, rec_at, row_sum, exp_col m c r _ u.isLt]

end Cert.Proof.Kernel

end
-- ==== Proof.Equal.lean ====
/-
  The two programs' results are equal where the arguments are real numbers.
-/
module

public import proofs.«01_k».proof.Defs
public import proofs.«01_k».proof.Proof.Finite
public import proofs.«01_k».proof.Proof.Reference
public import proofs.«01_k».proof.Proof.Result

@[expose] public section

set_option maxRecDepth 16384

noncomputable section

namespace Cert.Proof.Kernel

open Cert.Kernel Cert.Kernel.Gen Idealize.ShloMosaic Idealize.ShloMosaic.TcCoe

variable (m : (ℓ : Loc nD τ sig) → Buf (Elt Ideal) ℓ) (c : Dev nD)

/-- On this device the rows, the weights and the biases are real numbers. -/
def RealArgs : Prop := (∀ r k, IsReal (X m c r k)) ∧ (∀ u k, IsReal (W m c u k)) ∧ ∀ u, IsReal (B m c u)

/-- The precondition gives it on every device. -/
theorem realArgs_of_pre (h : Cert.Pre_KernelIdeal_finite m) : RealArgs m c :=
  ⟨fun r k => real_rows (h c).1 (ix2 r k), fun u k => real_weights (h c).2.1 (ix2 u k), fun u => real_biases (h c).2.2 (ix1 u)⟩

variable {m c} (h : RealArgs m c)
include h

/-- Every logit is real. -/
theorem real_logit (r : Fin 1024) (u : Fin 100000) : IsReal (logit m c r u) :=
  (IsReal.total fun k => (h.1 r k).mul (h.2.1 u k)).add (h.2.2 u)
/-- Every row's shift is real. -/
theorem real_shift (r : Fin 1024) : IsReal (shiftA (inV m) c r) := by
  rw [shift_at]
  exact ((IsReal.norm (h.1 r)).mul (IsReal.top_norm h.2.1)).add (IsReal.fold h.2.2)

/-- The kernel's result is the softmax with the row's largest logit subtracted. -/
theorem result_softmax (r : Fin 1024) (u : Fin 100000) :
    V9 m (outsOf m) c (Proc.devRef .tc main_v38) (ix2 r u)
      = Ideal.div (Ideal.exp (logit m c r u - ReferenceIdeal.topOf (X m c) (W m c) (B m c) r))
          (∑ v, Ideal.exp (logit m c r v - ReferenceIdeal.topOf (X m c) (W m c) (B m c) r)) :=
  (result_at m c r u).trans (softmax_shift (real_logit h r) (real_shift h r) (IsReal.fold (real_logit h r)) u)

/-- The kernel's result array is the reference's, of the same arguments. -/
theorem result_eq :
    V9 m (outsOf m) c (Proc.devRef .tc main_v38)
      = Cert.ReferenceIdeal.Read.val_main_v15 (F := Ideal) (m ((c.tc : Thread nD τ).loc main_arg0)) (m ((c.tc : Thread nD τ).loc main_arg2)) (m ((c.tc : Thread nD τ).loc main_arg3)) := by
  have key : ∀ r u, V9 m (outsOf m) c (Proc.devRef .tc main_v38) (ix2 r u)
      = Cert.ReferenceIdeal.Read.val_main_v15 (F := Ideal) (m ((c.tc : Thread nD τ).loc main_arg0)) (m ((c.tc : Thread nD τ).loc main_arg2)) (m ((c.tc : Thread nD τ).loc main_arg3)) (ix2 r u) := fun r u =>
    (result_softmax h r u).trans (ReferenceIdeal.softmax_at (x := X m c) (w := W m c) (b := B m c) (fun _ _ => rfl) (fun _ _ => rfl) (fun _ => rfl) r u).symm
  funext i
  have e : i = ix2 (i 0) (i 1) := funext fun a => match a with | ⟨0, _⟩ => rfl | ⟨1, _⟩ => rfl
  rw [e]
  exact key (i 0) (i 1)

end Cert.Proof.Kernel

end
-- ==== Proof.lean ====
/-
  The claims, put together: the kernel's frame at both float values, the reference's frame, and the equation of their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Run
public import proofs.«01_k».proof.Proof.Same
public import proofs.«01_k».proof.Proof.Equal

@[expose] public section

noncomputable section

namespace Cert.Proof

open Idealize.ShloMosaic Idealize.SL.Sem

/-- The kernel as printed runs, leaves its arguments as they were and every counter at zero. -/
theorem kernel_frame : Cert.quiescent_Kernel (hKernel := Cert.Kernel.Gen.facts) := fun m g _ =>
  (θ_run _ _ _).mono (fun _ h => ⟨fun c => (h.1 c).2, h.2⟩) (Kernel.run_main (F := Bits) m g)

/-- So does the kernel over the extended reals. -/
theorem kernelIdeal_frame : Cert.quiescent_KernelIdeal (hKernelIdeal := Cert.KernelIdeal.Gen.facts) := fun m g _ =>
  run_same m g _ ((θ_run _ _ _).mono (fun _ h => ⟨fun c => (h.1 c).2, h.2⟩) (Kernel.run_main (F := Ideal) m g))

/-- So does the reference. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Where the arguments are real numbers, the kernel and the reference end with the same result. -/
theorem results_equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.Kernel.Gen.V9 m (Kernel.outsOf m) c (Proc.devRef .tc Cert.Kernel.main_v38),
    run_same m g _ ((θ_run _ _ _).mono (fun _ h => h.1) (Kernel.run_main (F := Ideal) m g)),
    (θ_run _ _ _).mono (fun _ h c => ⟨(h c).1.trans ?_, (h c).2⟩) (Cert.ReferenceIdeal.Value.run (F := Ideal) m' g')⟩
  refine (Cert.ReferenceIdeal.Read.val_main_v15_eq _ _ _).trans ?_
  rw [(hagree c).1, (hagree c).2.2.1, (hagree c).2.2.2]
  exact (Kernel.result_eq (Kernel.realArgs_of_pre m c hpre)).symm

/-- All of the claims. -/
theorem claim : Cert.Claim :=
  ⟨Cert.Kernel.Gen.facts, Cert.KernelIdeal.Gen.facts, Cert.ReferenceIdeal.Gen.facts, Cert.Pre_finite.Gen.facts,
    kernel_frame, kernelIdeal_frame, fun m g _ => kernelIdeal_frame m g trivial, reference_frame, fun m g _ => reference_frame m g trivial,
    trivial, results_equal⟩

end Cert.Proof

end
